-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_off_knots [hPre_in_range_off_knots : Cert.Pre_in_range_off_knots.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_off_knots.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_off_knots [hPre_in_range_off_knots : Cert.Pre_in_range_off_knots.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_off_knots.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range_off_knots [hKernelIdeal : Cert.KernelIdeal.Facts] [hPre_in_range_off_knots : Cert.Pre_in_range_off_knots.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_off_knots m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range_off_knots [hReferenceIdeal : Cert.ReferenceIdeal.Facts] [hPre_in_range_off_knots : Cert.Pre_in_range_off_knots.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_off_knots m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range_off_knots [hKernelIdeal : Cert.KernelIdeal.Facts] [hReferenceIdeal : Cert.ReferenceIdeal.Facts] [hPre_in_range_off_knots : Cert.Pre_in_range_off_knots.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_off_knots m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range_off_knots : Cert.Pre_in_range_off_knots.Facts),
    quiescent_Kernel (hKernel := hKernel)
    ∧ quiescent_KernelIdeal (hKernelIdeal := hKernelIdeal)
    ∧ quiescent_KernelIdeal_pre_in_range_off_knots (hKernelIdeal := hKernelIdeal) (hPre_in_range_off_knots := hPre_in_range_off_knots)
    ∧ quiescent_ReferenceIdeal (hReferenceIdeal := hReferenceIdeal)
    ∧ quiescent_ReferenceIdeal_pre_in_range_off_knots (hReferenceIdeal := hReferenceIdeal) (hPre_in_range_off_knots := hPre_in_range_off_knots)
    ∧ preserves_Kernel_KernelIdeal
    ∧ algebraic_KernelIdeal_ReferenceIdeal_pre_in_range_off_knots (hKernelIdeal := hKernelIdeal) (hReferenceIdeal := hReferenceIdeal) (hPre_in_range_off_knots := hPre_in_range_off_knots)
-- ==== Pre_in_range_off_knots.lean ====
abbrev S8388608 : Shape := ⟨1, ![8388608]⟩
abbrev S63 : Shape := ⟨1, ![63]⟩
abbrev S_ : Shape := ⟨0, ![]⟩

class Facts : Prop where
  bcast_S_S8388608 : S_.BroadcastsInDim S8388608 (![] : Fin 0 → Fin S8388608.rank)
  reducesTo_S8388608_S_d0 : S8388608.ReducesTo [0] S_
  h_S_ : 0 < S_.numel

variable [Facts]

def fn {F : FTy → Type} [FloatOps F] (main_arg0 : FVec F S8388608 .f32) (main_arg1 : FVec F S63 .f32) : IVec S_ 1 :=
  let main_cst : FVec F S_ .f32 := constant S_ .f32 0x427C0000#32
  let main_v0 : FVec F S8388608 .f32 := broadcastInDim S8388608 ![] bcast_S_S8388608 main_cst
  let main_v1 : FVec F S8388608 .f32 := mulf main_arg0 main_v0
  let main_cst_0 : FVec F S_ .f32 := constant S_ .f32 0xC0A00000#32
  let main_v2 : FVec F S8388608 .f32 := broadcastInDim S8388608 ![] bcast_S_S8388608 main_cst_0
  let main_v3 : IVec S8388608 1 := cmpf .oge main_arg0 main_v2
  let main_cst_1 : FVec F S_ .f32 := constant S_ .f32 0x4B189680#32
  let main_v4 : FVec F S8388608 .f32 := broadcastInDim S8388608 ![] bcast_S_S8388608 main_cst_1
  let main_v5 : IVec S8388608 1 := cmpf .ole main_arg0 main_v4
  let main_v6 : IVec S8388608 1 := andi main_v3 main_v5
  let main_cst_2 : FVec F S_ .f32 := constant S_ .f32 0x00000000#32
  let main_v7 : FVec F S8388608 .f32 := broadcastInDim S8388608 ![] bcast_S_S8388608 main_cst_2
  let main_v8 : IVec S8388608 1 := cmpf .ole main_v1 main_v7
  let main_cst_3 : FVec F S_ .f32 := constant S_ .f32 0x427C0000#32
  let main_v9 : FVec F S8388608 .f32 := broadcastInDim S8388608 ![] bcast_S_S8388608 main_cst_3
  let main_v10 : IVec S8388608 1 := cmpf .oge main_v1 main_v9
  let main_v11 : IVec S8388608 1 := ori main_v8 main_v10
  let main_v12 : FVec F S8388608 .f32 := Host.floor main_v1
  let main_v13 : IVec S8388608 1 := cmpf .une main_v12 main_v1
  let main_v14 : IVec S8388608 1 := ori main_v11 main_v13
  let main_v15 : IVec S8388608 1 := andi main_v6 main_v14
  let main_c : IVec S_ 1 := constantI S_ 1 1#1
  let main_v16 : IVec S_ 1 := (fun x v => Host.reduce IntOp.andi x v reducesTo_S8388608_S_d0 h_S_) main_v15 main_c
  main_v16
-- ==== Kernel.lean ====
abbrev S8388608 : Shape := ⟨1, ![8388608]⟩
abbrev S63 : Shape := ⟨1, ![63]⟩
abbrev S_ : Shape := ⟨0, ![]⟩
abbrev S1 : Shape := ⟨1, ![1]⟩
abbrev S64 : Shape := ⟨1, ![64]⟩
abbrev S16384 : Shape := ⟨1, ![16384]⟩
abbrev S16 : Shape := ⟨1, ![16]⟩

abbrev nBuf : Table → Nat
  | .hbm => 73
  | .local .scVector .vmem => 8
  | _ => 0

abbrev bufTy : (tb : Table) → Fin (nBuf tb) → BufTy
  | .hbm, ⟨0, _⟩ => ⟨S8388608, .f32⟩
  | .hbm, ⟨1, _⟩ => ⟨S63, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S63, .f32⟩
  | .hbm, ⟨15, _⟩ => ⟨S_, .f32⟩
  | .hbm, ⟨16, _⟩ => ⟨S63, .f32⟩
  | .hbm, ⟨17, _⟩ => ⟨S63, .f32⟩
  | .hbm, ⟨18, _⟩ => ⟨S1, .f32⟩
  | .hbm, ⟨19, _⟩ => ⟨S_, .f32⟩
  | .hbm, ⟨20, _⟩ => ⟨S63, .f32⟩
  | .hbm, ⟨21, _⟩ => ⟨S63, .f32⟩
  | .hbm, ⟨22, _⟩ => ⟨S63, .f32⟩
  | .hbm, ⟨23, _⟩ => ⟨S63, .f32⟩
  | .hbm, ⟨24, _⟩ => ⟨S1, .f32⟩
  | .hbm, ⟨25, _⟩ => ⟨S63, .f32⟩
  | .hbm, ⟨26, _⟩ => ⟨S63, .f32⟩
  | .hbm, ⟨27, _⟩ => ⟨S63, .f32⟩
  | .hbm, ⟨28, _⟩ => ⟨S1, .f32⟩
  | .hbm, ⟨29, _⟩ => ⟨S64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1, .f32⟩
  | .hbm, ⟨35, _⟩ => ⟨S63, .f32⟩
  | .hbm, ⟨36, _⟩ => ⟨S63, .f32⟩
  | .hbm, ⟨37, _⟩ => ⟨S63, .f32⟩
  | .hbm, ⟨38, _⟩ => ⟨S_, .f32⟩
  | .hbm, ⟨39, _⟩ => ⟨S_, .f32⟩
  | .hbm, ⟨40, _⟩ => ⟨S1, .f32⟩
  | .hbm, ⟨41, _⟩ => ⟨S63, .f32⟩
  | .hbm, ⟨42, _⟩ => ⟨S63, .f32⟩
  | .hbm, ⟨43, _⟩ => ⟨S_, .f32⟩
  | .hbm, ⟨44, _⟩ => ⟨S1, .f32⟩
  | .hbm, ⟨45, _⟩ => ⟨S64, .f32⟩
  | .hbm, ⟨46, _⟩ => ⟨S_, .f32⟩
  | .hbm, ⟨47, _⟩ => ⟨S_, .f32⟩
  | .hbm, ⟨48, _⟩ => ⟨S64, .f32⟩
  | .hbm, ⟨49, _⟩ => ⟨S63, .f32⟩
  | .hbm, ⟨50, _⟩ => ⟨S63, .f32⟩
  | .hbm, ⟨51, _⟩ => ⟨S63, .f32⟩
  | .hbm, ⟨52, _⟩ => ⟨S63, .f32⟩
  | .hbm, ⟨53, _⟩ => ⟨S63, .f32⟩
  | .hbm, ⟨54, _⟩ => ⟨S63, .f32⟩
  | .hbm, ⟨55, _⟩ => ⟨S_, .f32⟩
  | .hbm, ⟨56, _⟩ => ⟨S63, .f32⟩
  | .hbm, ⟨57, _⟩ => ⟨S63, .f32⟩
  | .hbm, ⟨58, _⟩ => ⟨S63, .f32⟩
  | .hbm, ⟨59, _⟩ => ⟨S63, .f32⟩
  | .hbm, ⟨60, _⟩ => ⟨S63, .f32⟩
  | .hbm, ⟨61, _⟩ => ⟨S63, .f32⟩
  | .hbm, ⟨62, _⟩ => ⟨S63, .f32⟩
  | .hbm, ⟨63, _⟩ => ⟨S63, .f32⟩
  | .hbm, ⟨64, _⟩ => ⟨S63, .f32⟩
  | .hbm, ⟨65, _⟩ => ⟨S63, .f32⟩
  | .hbm, ⟨66, _⟩ => ⟨S63, .f32⟩
  | .hbm, ⟨67, _⟩ => ⟨S1, .f32⟩
  | .hbm, ⟨68, _⟩ => ⟨S64, .f32⟩
  | .hbm, ⟨69, _⟩ => ⟨S1, .f32⟩
  | .hbm, ⟨70, _⟩ => ⟨S64, .f32⟩
  | .hbm, ⟨71, _⟩ => ⟨S8388608, .f32⟩
  | .hbm, ⟨72, _⟩ => ⟨S8388608, .f32⟩
  | .local .scVector .vmem, ⟨0, _⟩ => ⟨S64, .f32⟩
  | .local .scVector .vmem, ⟨1, _⟩ => ⟨S64, .f32⟩
  | .local .scVector .vmem, ⟨2, _⟩ => ⟨S16384, .f32⟩
  | .local .scVector .vmem, ⟨3, _⟩ => ⟨S16384, .f32⟩
  | .local .scVector .vmem, ⟨4, _⟩ => ⟨S16384, .f32⟩
  | .local .scVector .vmem, ⟨5, _⟩ => ⟨S16384, .f32⟩
  | .local .scVector .vmem, ⟨6, _⟩ => ⟨S16384, .f32⟩
  | .local .scVector .vmem, ⟨7, _⟩ => ⟨S16384, .f32⟩
  | _, _ => ⟨S8388608, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_cst_2 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_cst : Ref sig .tc := ⟨.hbm, 12, rfl⟩
abbrev main_call0_v3 : Ref sig .tc := ⟨.hbm, 13, rfl⟩
abbrev main_call0_v4 : Ref sig .tc := ⟨.hbm, 14, rfl⟩
abbrev main_call0_cst_0 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_v3 : Ref sig .tc := ⟨.hbm, 29, rfl⟩
abbrev main_cst_3 : Ref sig .tc := ⟨.hbm, 30, rfl⟩
abbrev main_v4 : Ref sig .tc := ⟨.hbm, 31, rfl⟩
abbrev main_cst_4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_5 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_6 : Ref sig .tc := ⟨.hbm, 43, rfl⟩
abbrev main_v14 : Ref sig .tc := ⟨.hbm, 44, rfl⟩
abbrev main_v15 : Ref sig .tc := ⟨.hbm, 45, rfl⟩
abbrev main_call1_call0_cst : Ref sig .tc := ⟨.hbm, 46, rfl⟩
abbrev main_call1_call0_v0 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_7 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38_0 : Ref sig .tc := ⟨.hbm, 71, rfl⟩
abbrev main_v38_1 : Ref sig .tc := ⟨.hbm, 72, rfl⟩
abbrev main_arg0_scv : Ref sig .scVector := ⟨.hbm, 0, rfl⟩
abbrev main_v35_scv : Ref sig .scVector := ⟨.hbm, 68, rfl⟩
abbrev main_v37_scv : Ref sig .scVector := ⟨.hbm, 70, rfl⟩
abbrev main_v38_0_scv : Ref sig .scVector := ⟨.hbm, 71, rfl⟩
abbrev main_v38_1_scv : Ref sig .scVector := ⟨.hbm, 72, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let v3 : BitVec 32 := Scalar.addi v2 c0_i32
  ![v3.toNat]
@[reducible] def k0_t1_loop : Scf.Loop 32 :=
  let c0_i32_0 : BitVec 32 := 0#32
  let c1024_i32 : BitVec 32 := 1024#32
  let v11 : BitVec 32 := Scalar.addi c0_i32_0 c1024_i32
  let c1_i32 : BitVec 32 := 1#32
  ⟨c0_i32_0, v11, c1_i32⟩
def k0_off2 (k0_t1 : Fin k0_t1_loop.trips) : Fin 1 → Nat :=
  let c0_i32_0 : BitVec 32 := 0#32
  let c1_i32 : BitVec 32 := 1#32
  let arg21 : BitVec 32 := Scf.iv c0_i32_0 c1_i32 k0_t1
  let c16_i32 : BitVec 32 := 16#32
  let v259 : BitVec 32 := Scalar.muli arg21 c16_i32
  let v260 : Index := Scalar.indexCast v259
  ![v260.toNat]

def k0_chk1 (v270 : IVec S16 32) : Prop :=
  (∀ a x, ((![v270] : Fin 1 → IVec S16 32) a x).toNat < S64.size a) ∧
  (∀ a x, ((![v270] : Fin 1 → IVec S16 32) a x).toNat < S64.size a)
theorem k0_idx1_inb : ∀ (v270 : IVec S16 32) (k0_hw1 : k0_chk1 v270), ∀ a x, ((![v270] : Fin 1 → IVec S16 32) a x).toNat < S64.size a := fun v270 k0_hw1 => k0_hw1.1
theorem k0_idx2_inb : ∀ (v270 : IVec S16 32) (k0_hw1 : k0_chk1 v270), ∀ a x, ((![v270] : Fin 1 → IVec S16 32) a x).toNat < S64.size a := fun v270 k0_hw1 => k0_hw1.2
def k0_off3 (k0_t1 : Fin k0_t1_loop.trips) : Fin 1 → Nat :=
  let c0_i32_0 : BitVec 32 := 0#32
  let c1_i32 : BitVec 32 := 1#32
  let arg21 : BitVec 32 := Scf.iv c0_i32_0 c1_i32 k0_t1
  let c16_i32_96 : BitVec 32 := 16#32
  let v276 : BitVec 32 := Scalar.muli arg21 c16_i32_96
  let v277 : Index := Scalar.indexCast v276
  ![v277.toNat]
@[reducible] def k0_t2_loop : Scf.Loop 32 :=
  let c0_i32_4 : BitVec 32 := 0#32
  let c1024_i32_5 : BitVec 32 := 1024#32
  let v23 : BitVec 32 := Scalar.addi c0_i32_4 c1024_i32_5
  let c1_i32_6 : BitVec 32 := 1#32
  ⟨c0_i32_4, v23, c1_i32_6⟩
def k0_off4 (k0_t2 : Fin k0_t2_loop.trips) : Fin 1 → Nat :=
  let c0_i32_4 : BitVec 32 := 0#32
  let c1_i32_6 : BitVec 32 := 1#32
  let arg21 : BitVec 32 := Scf.iv c0_i32_4 c1_i32_6 k0_t2
  let c16_i32 : BitVec 32 := 16#32
  let v259 : BitVec 32 := Scalar.muli arg21 c16_i32
  let v260 : Index := Scalar.indexCast v259
  ![v260.toNat]

def k0_chk2 (v270 : IVec S16 32) : Prop :=
  (∀ a x, ((![v270] : Fin 1 → IVec S16 32) a x).toNat < S64.size a) ∧
  (∀ a x, ((![v270] : Fin 1 → IVec S16 32) a x).toNat < S64.size a)
theorem k0_idx3_inb : ∀ (v270 : IVec S16 32) (k0_hw2 : k0_chk2 v270), ∀ a x, ((![v270] : Fin 1 → IVec S16 32) a x).toNat < S64.size a := fun v270 k0_hw2 => k0_hw2.1
theorem k0_idx4_inb : ∀ (v270 : IVec S16 32) (k0_hw2 : k0_chk2 v270), ∀ a x, ((![v270] : Fin 1 → IVec S16 32) a x).toNat < S64.size a := fun v270 k0_hw2 => k0_hw2.2
def k0_off5 (k0_t2 : Fin k0_t2_loop.trips) : Fin 1 → Nat :=
  let c0_i32_4 : BitVec 32 := 0#32
  let c1_i32_6 : BitVec 32 := 1#32
  let arg21 : BitVec 32 := Scf.iv c0_i32_4 c1_i32_6 k0_t2
  let c16_i32_96 : BitVec 32 := 16#32
  let v276 : BitVec 32 := Scalar.muli arg21 c16_i32_96
  let v277 : Index := Scalar.indexCast v276
  ![v277.toNat]
@[reducible] def k0_t3_loop : Scf.Loop 32 :=
  let c0_i32_10 : BitVec 32 := 0#32
  let c1024_i32_11 : BitVec 32 := 1024#32
  let v39 : BitVec 32 := Scalar.addi c0_i32_10 c1024_i32_11
  let c1_i32_12 : BitVec 32 := 1#32
  ⟨c0_i32_10, v39, c1_i32_12⟩
def k0_off6 (k0_t3 : Fin k0_t3_loop.trips) : Fin 1 → Nat :=
  let c0_i32_10 : BitVec 32 := 0#32
  let c1_i32_12 : BitVec 32 := 1#32
  let arg21 : BitVec 32 := Scf.iv c0_i32_10 c1_i32_12 k0_t3
  let c16_i32 : BitVec 32 := 16#32
  let v259 : BitVec 32 := Scalar.muli arg21 c16_i32
  let v260 : Index := Scalar.indexCast v259
  ![v260.toNat]

def k0_chk3 (v270 : IVec S16 32) : Prop :=
  (∀ a x, ((![v270] : Fin 1 → IVec S16 32) a x).toNat < S64.size a) ∧
  (∀ a x, ((![v270] : Fin 1 → IVec S16 32) a x).toNat < S64.size a)
theorem k0_idx5_inb : ∀ (v270 : IVec S16 32) (k0_hw3 : k0_chk3 v270), ∀ a x, ((![v270] : Fin 1 → IVec S16 32) a x).toNat < S64.size a := fun v270 k0_hw3 => k0_hw3.1
theorem k0_idx6_inb : ∀ (v270 : IVec S16 32) (k0_hw3 : k0_chk3 v270), ∀ a x, ((![v270] : Fin 1 → IVec S16 32) a x).toNat < S64.size a := fun v270 k0_hw3 => k0_hw3.2
def k0_off7 (k0_t3 : Fin k0_t3_loop.trips) : Fin 1 → Nat :=
  let c0_i32_10 : BitVec 32 := 0#32
  let c1_i32_12 : BitVec 32 := 1#32
  let arg21 : BitVec 32 := Scf.iv c0_i32_10 c1_i32_12 k0_t3
  let c16_i32_96 : BitVec 32 := 16#32
  let v276 : BitVec 32 := Scalar.muli arg21 c16_i32_96
  let v277 : Index := Scalar.indexCast v276
  ![v277.toNat]
@[reducible] def k0_t4_loop : Scf.Loop 32 :=
  let c0_i32_16 : BitVec 32 := 0#32
  let c1024_i32_17 : BitVec 32 := 1024#32
  let v55 : BitVec 32 := Scalar.addi c0_i32_16 c1024_i32_17
  let c1_i32_18 : BitVec 32 := 1#32
  ⟨c0_i32_16, v55, c1_i32_18⟩
def k0_off8 (k0_t4 : Fin k0_t4_loop.trips) : Fin 1 → Nat :=
  let c0_i32_16 : BitVec 32 := 0#32
  let c1_i32_18 : BitVec 32 := 1#32
  let arg21 : BitVec 32 := Scf.iv c0_i32_16 c1_i32_18 k0_t4
  let c16_i32 : BitVec 32 := 16#32
  let v259 : BitVec 32 := Scalar.muli arg21 c16_i32
  let v260 : Index := Scalar.indexCast v259
  ![v260.toNat]

def k0_chk4 (v270 : IVec S16 32) : Prop :=
  (∀ a x, ((![v270] : Fin 1 → IVec S16 32) a x).toNat < S64.size a) ∧
  (∀ a x, ((![v270] : Fin 1 → IVec S16 32) a x).toNat < S64.size a)
theorem k0_idx7_inb : ∀ (v270 : IVec S16 32) (k0_hw4 : k0_chk4 v270), ∀ a x, ((![v270] : Fin 1 → IVec S16 32) a x).toNat < S64.size a := fun v270 k0_hw4 => k0_hw4.1
theorem k0_idx8_inb : ∀ (v270 : IVec S16 32) (k0_hw4 : k0_chk4 v270), ∀ a x, ((![v270] : Fin 1 → IVec S16 32) a x).toNat < S64.size a := fun v270 k0_hw4 => k0_hw4.2
def k0_off9 (k0_t4 : Fin k0_t4_loop.trips) : Fin 1 → Nat :=
  let c0_i32_16 : BitVec 32 := 0#32
  let c1_i32_18 : BitVec 32 := 1#32
  let arg21 : BitVec 32 := Scf.iv c0_i32_16 c1_i32_18 k0_t4
  let c16_i32_96 : BitVec 32 := 16#32
  let v276 : BitVec 32 := Scalar.muli arg21 c16_i32_96
  let v277 : Index := Scalar.indexCast v276
  ![v277.toNat]
@[reducible] def k0_t5_loop : Scf.Loop 32 :=
  let c0_i32_22 : BitVec 32 := 0#32
  let c1024_i32_23 : BitVec 32 := 1024#32
  let v71 : BitVec 32 := Scalar.addi c0_i32_22 c1024_i32_23
  let c1_i32_24 : BitVec 32 := 1#32
  ⟨c0_i32_22, v71, c1_i32_24⟩
def k0_off10 (k0_t5 : Fin k0_t5_loop.trips) : Fin 1 → Nat :=
  let c0_i32_22 : BitVec 32 := 0#32
  let c1_i32_24 : BitVec 32 := 1#32
  let arg21 : BitVec 32 := Scf.iv c0_i32_22 c1_i32_24 k0_t5
  let c16_i32 : BitVec 32 := 16#32
  let v259 : BitVec 32 := Scalar.muli arg21 c16_i32
  let v260 : Index := Scalar.indexCast v259
  ![v260.toNat]

def k0_chk5 (v270 : IVec S16 32) : Prop :=
  (∀ a x, ((![v270] : Fin 1 → IVec S16 32) a x).toNat < S64.size a) ∧
  (∀ a x, ((![v270] : Fin 1 → IVec S16 32) a x).toNat < S64.size a)
theorem k0_idx9_inb : ∀ (v270 : IVec S16 32) (k0_hw5 : k0_chk5 v270), ∀ a x, ((![v270] : Fin 1 → IVec S16 32) a x).toNat < S64.size a := fun v270 k0_hw5 => k0_hw5.1
theorem k0_idx10_inb : ∀ (v270 : IVec S16 32) (k0_hw5 : k0_chk5 v270), ∀ a x, ((![v270] : Fin 1 → IVec S16 32) a x).toNat < S64.size a := fun v270 k0_hw5 => k0_hw5.2
def k0_off11 (k0_t5 : Fin k0_t5_loop.trips) : Fin 1 → Nat :=
  let c0_i32_22 : BitVec 32 := 0#32
  let c1_i32_24 : BitVec 32 := 1#32
  let arg21 : BitVec 32 := Scf.iv c0_i32_22 c1_i32_24 k0_t5
  let c16_i32_96 : BitVec 32 := 16#32
  let v276 : BitVec 32 := Scalar.muli arg21 c16_i32_96
  let v277 : Index := Scalar.indexCast v276
  ![v277.toNat]
@[reducible] def k0_t6_loop : Scf.Loop 32 :=
  let c0_i32_28 : BitVec 32 := 0#32
  let c1024_i32_29 : BitVec 32 := 1024#32
  let v87 : BitVec 32 := Scalar.addi c0_i32_28 c1024_i32_29
  let c1_i32_30 : BitVec 32 := 1#32
  ⟨c0_i32_28, v87, c1_i32_30⟩
def k0_off12 (k0_t6 : Fin k0_t6_loop.trips) : Fin 1 → Nat :=
  let c0_i32_28 : BitVec 32 := 0#32
  let c1_i32_30 : BitVec 32 := 1#32
  let arg21 : BitVec 32 := Scf.iv c0_i32_28 c1_i32_30 k0_t6
  let c16_i32 : BitVec 32 := 16#32
  let v259 : BitVec 32 := Scalar.muli arg21 c16_i32
  let v260 : Index := Scalar.indexCast v259
  ![v260.toNat]

def k0_chk6 (v270 : IVec S16 32) : Prop :=
  (∀ a x, ((![v270] : Fin 1 → IVec S16 32) a x).toNat < S64.size a) ∧
  (∀ a x, ((![v270] : Fin 1 → IVec S16 32) a x).toNat < S64.size a)
theorem k0_idx11_inb : ∀ (v270 : IVec S16 32) (k0_hw6 : k0_chk6 v270), ∀ a x, ((![v270] : Fin 1 → IVec S16 32) a x).toNat < S64.size a := fun v270 k0_hw6 => k0_hw6.1
theorem k0_idx12_inb : ∀ (v270 : IVec S16 32) (k0_hw6 : k0_chk6 v270), ∀ a x, ((![v270] : Fin 1 → IVec S16 32) a x).toNat < S64.size a := fun v270 k0_hw6 => k0_hw6.2
def k0_off13 (k0_t6 : Fin k0_t6_loop.trips) : Fin 1 → Nat :=
  let c0_i32_28 : BitVec 32 := 0#32
  let c1_i32_30 : BitVec 32 := 1#32
  let arg21 : BitVec 32 := Scf.iv c0_i32_28 c1_i32_30 k0_t6
  let c16_i32_96 : BitVec 32 := 16#32
  let v276 : BitVec 32 := Scalar.muli arg21 c16_i32_96
  let v277 : Index := Scalar.indexCast v276
  ![v277.toNat]
@[reducible] def k0_t7_loop : Scf.Loop 32 :=
  let c0_i32_34 : BitVec 32 := 0#32
  let c1024_i32_35 : BitVec 32 := 1024#32
  let v103 : BitVec 32 := Scalar.addi c0_i32_34 c1024_i32_35
  let c1_i32_36 : BitVec 32 := 1#32
  ⟨c0_i32_34, v103, c1_i32_36⟩
def k0_off14 (k0_t7 : Fin k0_t7_loop.trips) : Fin 1 → Nat :=
  let c0_i32_34 : BitVec 32 := 0#32
  let c1_i32_36 : BitVec 32 := 1#32
  let arg21 : BitVec 32 := Scf.iv c0_i32_34 c1_i32_36 k0_t7
  let c16_i32 : BitVec 32 := 16#32
  let v259 : BitVec 32 := Scalar.muli arg21 c16_i32
  let v260 : Index := Scalar.indexCast v259
  ![v260.toNat]

def k0_chk7 (v270 : IVec S16 32) : Prop :=
  (∀ a x, ((![v270] : Fin 1 → IVec S16 32) a x).toNat < S64.size a) ∧
  (∀ a x, ((![v270] : Fin 1 → IVec S16 32) a x).toNat < S64.size a)
theorem k0_idx13_inb : ∀ (v270 : IVec S16 32) (k0_hw7 : k0_chk7 v270), ∀ a x, ((![v270] : Fin 1 → IVec S16 32) a x).toNat < S64.size a := fun v270 k0_hw7 => k0_hw7.1
theorem k0_idx14_inb : ∀ (v270 : IVec S16 32) (k0_hw7 : k0_chk7 v270), ∀ a x, ((![v270] : Fin 1 → IVec S16 32) a x).toNat < S64.size a := fun v270 k0_hw7 => k0_hw7.2
def k0_off15 (k0_t7 : Fin k0_t7_loop.trips) : Fin 1 → Nat :=
  let c0_i32_34 : BitVec 32 := 0#32
  let c1_i32_36 : BitVec 32 := 1#32
  let arg21 : BitVec 32 := Scf.iv c0_i32_34 c1_i32_36 k0_t7
  let c16_i32_96 : BitVec 32 := 16#32
  let v276 : BitVec 32 := Scalar.muli arg21 c16_i32_96
  let v277 : Index := Scalar.indexCast v276
  ![v277.toNat]
@[reducible] def k0_t8_loop : Scf.Loop 32 :=
  let c0_i32_40 : BitVec 32 := 0#32
  let c1024_i32_41 : BitVec 32 := 1024#32
  let v119 : BitVec 32 := Scalar.addi c0_i32_40 c1024_i32_41
  let c1_i32_42 : BitVec 32 := 1#32
  ⟨c0_i32_40, v119, c1_i32_42⟩
def k0_off16 (k0_t8 : Fin k0_t8_loop.trips) : Fin 1 → Nat :=
  let c0_i32_40 : BitVec 32 := 0#32
  let c1_i32_42 : BitVec 32 := 1#32
  let arg21 : BitVec 32 := Scf.iv c0_i32_40 c1_i32_42 k0_t8
  let c16_i32 : BitVec 32 := 16#32
  let v259 : BitVec 32 := Scalar.muli arg21 c16_i32
  let v260 : Index := Scalar.indexCast v259
  ![v260.toNat]

def k0_chk8 (v270 : IVec S16 32) : Prop :=
  (∀ a x, ((![v270] : Fin 1 → IVec S16 32) a x).toNat < S64.size a) ∧
  (∀ a x, ((![v270] : Fin 1 → IVec S16 32) a x).toNat < S64.size a)
theorem k0_idx15_inb : ∀ (v270 : IVec S16 32) (k0_hw8 : k0_chk8 v270), ∀ a x, ((![v270] : Fin 1 → IVec S16 32) a x).toNat < S64.size a := fun v270 k0_hw8 => k0_hw8.1
theorem k0_idx16_inb : ∀ (v270 : IVec S16 32) (k0_hw8 : k0_chk8 v270), ∀ a x, ((![v270] : Fin 1 → IVec S16 32) a x).toNat < S64.size a := fun v270 k0_hw8 => k0_hw8.2
def k0_off17 (k0_t8 : Fin k0_t8_loop.trips) : Fin 1 → Nat :=
  let c0_i32_40 : BitVec 32 := 0#32
  let c1_i32_42 : BitVec 32 := 1#32
  let arg21 : BitVec 32 := Scf.iv c0_i32_40 c1_i32_42 k0_t8
  let c16_i32_96 : BitVec 32 := 16#32
  let v276 : BitVec 32 := Scalar.muli arg21 c16_i32_96
  let v277 : Index := Scalar.indexCast v276
  ![v277.toNat]
@[reducible] def k0_t9_loop : Scf.Loop 32 :=
  let c0_i32_46 : BitVec 32 := 0#32
  let c1024_i32_47 : BitVec 32 := 1024#32
  let v135 : BitVec 32 := Scalar.addi c0_i32_46 c1024_i32_47
  let c1_i32_48 : BitVec 32 := 1#32
  ⟨c0_i32_46, v135, c1_i32_48⟩
def k0_off18 (k0_t9 : Fin k0_t9_loop.trips) : Fin 1 → Nat :=
  let c0_i32_46 : BitVec 32 := 0#32
  let c1_i32_48 : BitVec 32 := 1#32
  let arg21 : BitVec 32 := Scf.iv c0_i32_46 c1_i32_48 k0_t9
  let c16_i32 : BitVec 32 := 16#32
  let v259 : BitVec 32 := Scalar.muli arg21 c16_i32
  let v260 : Index := Scalar.indexCast v259
  ![v260.toNat]

def k0_chk9 (v270 : IVec S16 32) : Prop :=
  (∀ a x, ((![v270] : Fin 1 → IVec S16 32) a x).toNat < S64.size a) ∧
  (∀ a x, ((![v270] : Fin 1 → IVec S16 32) a x).toNat < S64.size a)
theorem k0_idx17_inb : ∀ (v270 : IVec S16 32) (k0_hw9 : k0_chk9 v270), ∀ a x, ((![v270] : Fin 1 → IVec S16 32) a x).toNat < S64.size a := fun v270 k0_hw9 => k0_hw9.1
theorem k0_idx18_inb : ∀ (v270 : IVec S16 32) (k0_hw9 : k0_chk9 v270), ∀ a x, ((![v270] : Fin 1 → IVec S16 32) a x).toNat < S64.size a := fun v270 k0_hw9 => k0_hw9.2
def k0_off19 (k0_t9 : Fin k0_t9_loop.trips) : Fin 1 → Nat :=
  let c0_i32_46 : BitVec 32 := 0#32
  let c1_i32_48 : BitVec 32 := 1#32
  let arg21 : BitVec 32 := Scf.iv c0_i32_46 c1_i32_48 k0_t9
  let c16_i32_96 : BitVec 32 := 16#32
  let v276 : BitVec 32 := Scalar.muli arg21 c16_i32_96
  let v277 : Index := Scalar.indexCast v276
  ![v277.toNat]
@[reducible] def k0_t10_loop : Scf.Loop 32 :=
  let c0_i32_52 : BitVec 32 := 0#32
  let c1024_i32_53 : BitVec 32 := 1024#32
  let v151 : BitVec 32 := Scalar.addi c0_i32_52 c1024_i32_53
  let c1_i32_54 : BitVec 32 := 1#32
  ⟨c0_i32_52, v151, c1_i32_54⟩
def k0_off20 (k0_t10 : Fin k0_t10_loop.trips) : Fin 1 → Nat :=
  let c0_i32_52 : BitVec 32 := 0#32
  let c1_i32_54 : BitVec 32 := 1#32
  let arg21 : BitVec 32 := Scf.iv c0_i32_52 c1_i32_54 k0_t10
  let c16_i32 : BitVec 32 := 16#32
  let v259 : BitVec 32 := Scalar.muli arg21 c16_i32
  let v260 : Index := Scalar.indexCast v259
  ![v260.toNat]

def k0_chk10 (v270 : IVec S16 32) : Prop :=
  (∀ a x, ((![v270] : Fin 1 → IVec S16 32) a x).toNat < S64.size a) ∧
  (∀ a x, ((![v270] : Fin 1 → IVec S16 32) a x).toNat < S64.size a)
theorem k0_idx19_inb : ∀ (v270 : IVec S16 32) (k0_hw10 : k0_chk10 v270), ∀ a x, ((![v270] : Fin 1 → IVec S16 32) a x).toNat < S64.size a := fun v270 k0_hw10 => k0_hw10.1
theorem k0_idx20_inb : ∀ (v270 : IVec S16 32) (k0_hw10 : k0_chk10 v270), ∀ a x, ((![v270] : Fin 1 → IVec S16 32) a x).toNat < S64.size a := fun v270 k0_hw10 => k0_hw10.2
def k0_off21 (k0_t10 : Fin k0_t10_loop.trips) : Fin 1 → Nat :=
  let c0_i32_52 : BitVec 32 := 0#32
  let c1_i32_54 : BitVec 32 := 1#32
  let arg21 : BitVec 32 := Scf.iv c0_i32_52 c1_i32_54 k0_t10
  let c16_i32_96 : BitVec 32 := 16#32
  let v276 : BitVec 32 := Scalar.muli arg21 c16_i32_96
  let v277 : Index := Scalar.indexCast v276
  ![v277.toNat]
@[reducible] def k0_t11_loop : Scf.Loop 32 :=
  let c0_i32_58 : BitVec 32 := 0#32
  let c1024_i32_59 : BitVec 32 := 1024#32
  let v167 : BitVec 32 := Scalar.addi c0_i32_58 c1024_i32_59
  let c1_i32_60 : BitVec 32 := 1#32
  ⟨c0_i32_58, v167, c1_i32_60⟩
def k0_off22 (k0_t11 : Fin k0_t11_loop.trips) : Fin 1 → Nat :=
  let c0_i32_58 : BitVec 32 := 0#32
  let c1_i32_60 : BitVec 32 := 1#32
  let arg21 : BitVec 32 := Scf.iv c0_i32_58 c1_i32_60 k0_t11
  let c16_i32 : BitVec 32 := 16#32
  let v259 : BitVec 32 := Scalar.muli arg21 c16_i32
  let v260 : Index := Scalar.indexCast v259
  ![v260.toNat]

def k0_chk11 (v270 : IVec S16 32) : Prop :=
  (∀ a x, ((![v270] : Fin 1 → IVec S16 32) a x).toNat < S64.size a) ∧
  (∀ a x, ((![v270] : Fin 1 → IVec S16 32) a x).toNat < S64.size a)
theorem k0_idx21_inb : ∀ (v270 : IVec S16 32) (k0_hw11 : k0_chk11 v270), ∀ a x, ((![v270] : Fin 1 → IVec S16 32) a x).toNat < S64.size a := fun v270 k0_hw11 => k0_hw11.1
theorem k0_idx22_inb : ∀ (v270 : IVec S16 32) (k0_hw11 : k0_chk11 v270), ∀ a x, ((![v270] : Fin 1 → IVec S16 32) a x).toNat < S64.size a := fun v270 k0_hw11 => k0_hw11.2
def k0_off23 (k0_t11 : Fin k0_t11_loop.trips) : Fin 1 → Nat :=
  let c0_i32_58 : BitVec 32 := 0#32
  let c1_i32_60 : BitVec 32 := 1#32
  let arg21 : BitVec 32 := Scf.iv c0_i32_58 c1_i32_60 k0_t11
  let c16_i32_96 : BitVec 32 := 16#32
  let v276 : BitVec 32 := Scalar.muli arg21 c16_i32_96
  let v277 : Index := Scalar.indexCast v276
  ![v277.toNat]
@[reducible] def k0_t12_loop : Scf.Loop 32 :=
  let c0_i32_64 : BitVec 32 := 0#32
  let c1024_i32_65 : BitVec 32 := 1024#32
  let v183 : BitVec 32 := Scalar.addi c0_i32_64 c1024_i32_65
  let c1_i32_66 : BitVec 32 := 1#32
  ⟨c0_i32_64, v183, c1_i32_66⟩
def k0_off24 (k0_t12 : Fin k0_t12_loop.trips) : Fin 1 → Nat :=
  let c0_i32_64 : BitVec 32 := 0#32
  let c1_i32_66 : BitVec 32 := 1#32
  let arg21 : BitVec 32 := Scf.iv c0_i32_64 c1_i32_66 k0_t12
  let c16_i32 : BitVec 32 := 16#32
  let v259 : BitVec 32 := Scalar.muli arg21 c16_i32
  let v260 : Index := Scalar.indexCast v259
  ![v260.toNat]

def k0_chk12 (v270 : IVec S16 32) : Prop :=
  (∀ a x, ((![v270] : Fin 1 → IVec S16 32) a x).toNat < S64.size a) ∧
  (∀ a x, ((![v270] : Fin 1 → IVec S16 32) a x).toNat < S64.size a)
theorem k0_idx23_inb : ∀ (v270 : IVec S16 32) (k0_hw12 : k0_chk12 v270), ∀ a x, ((![v270] : Fin 1 → IVec S16 32) a x).toNat < S64.size a := fun v270 k0_hw12 => k0_hw12.1
theorem k0_idx24_inb : ∀ (v270 : IVec S16 32) (k0_hw12 : k0_chk12 v270), ∀ a x, ((![v270] : Fin 1 → IVec S16 32) a x).toNat < S64.size a := fun v270 k0_hw12 => k0_hw12.2
def k0_off25 (k0_t12 : Fin k0_t12_loop.trips) : Fin 1 → Nat :=
  let c0_i32_64 : BitVec 32 := 0#32
  let c1_i32_66 : BitVec 32 := 1#32
  let arg21 : BitVec 32 := Scf.iv c0_i32_64 c1_i32_66 k0_t12
  let c16_i32_96 : BitVec 32 := 16#32
  let v276 : BitVec 32 := Scalar.muli arg21 c16_i32_96
  let v277 : Index := Scalar.indexCast v276
  ![v277.toNat]
@[reducible] def k0_t13_loop : Scf.Loop 32 :=
  let c0_i32_70 : BitVec 32 := 0#32
  let c1024_i32_71 : BitVec 32 := 1024#32
  let v199 : BitVec 32 := Scalar.addi c0_i32_70 c1024_i32_71
  let c1_i32_72 : BitVec 32 := 1#32
  ⟨c0_i32_70, v199, c1_i32_72⟩
def k0_off26 (k0_t13 : Fin k0_t13_loop.trips) : Fin 1 → Nat :=
  let c0_i32_70 : BitVec 32 := 0#32
  let c1_i32_72 : BitVec 32 := 1#32
  let arg21 : BitVec 32 := Scf.iv c0_i32_70 c1_i32_72 k0_t13
  let c16_i32 : BitVec 32 := 16#32
  let v259 : BitVec 32 := Scalar.muli arg21 c16_i32
  let v260 : Index := Scalar.indexCast v259
  ![v260.toNat]

def k0_chk13 (v270 : IVec S16 32) : Prop :=
  (∀ a x, ((![v270] : Fin 1 → IVec S16 32) a x).toNat < S64.size a) ∧
  (∀ a x, ((![v270] : Fin 1 → IVec S16 32) a x).toNat < S64.size a)
theorem k0_idx25_inb : ∀ (v270 : IVec S16 32) (k0_hw13 : k0_chk13 v270), ∀ a x, ((![v270] : Fin 1 → IVec S16 32) a x).toNat < S64.size a := fun v270 k0_hw13 => k0_hw13.1
theorem k0_idx26_inb : ∀ (v270 : IVec S16 32) (k0_hw13 : k0_chk13 v270), ∀ a x, ((![v270] : Fin 1 → IVec S16 32) a x).toNat < S64.size a := fun v270 k0_hw13 => k0_hw13.2
def k0_off27 (k0_t13 : Fin k0_t13_loop.trips) : Fin 1 → Nat :=
  let c0_i32_70 : BitVec 32 := 0#32
  let c1_i32_72 : BitVec 32 := 1#32
  let arg21 : BitVec 32 := Scf.iv c0_i32_70 c1_i32_72 k0_t13
  let c16_i32_96 : BitVec 32 := 16#32
  let v276 : BitVec 32 := Scalar.muli arg21 c16_i32_96
  let v277 : Index := Scalar.indexCast v276
  ![v277.toNat]
@[reducible] def k0_t14_loop : Scf.Loop 32 :=
  let c0_i32_76 : BitVec 32 := 0#32
  let c1024_i32_77 : BitVec 32 := 1024#32
  let v215 : BitVec 32 := Scalar.addi c0_i32_76 c1024_i32_77
  let c1_i32_78 : BitVec 32 := 1#32
  ⟨c0_i32_76, v215, c1_i32_78⟩
def k0_off28 (k0_t14 : Fin k0_t14_loop.trips) : Fin 1 → Nat :=
  let c0_i32_76 : BitVec 32 := 0#32
  let c1_i32_78 : BitVec 32 := 1#32
  let arg21 : BitVec 32 := Scf.iv c0_i32_76 c1_i32_78 k0_t14
  let c16_i32 : BitVec 32 := 16#32
  let v259 : BitVec 32 := Scalar.muli arg21 c16_i32
  let v260 : Index := Scalar.indexCast v259
  ![v260.toNat]

def k0_chk14 (v270 : IVec S16 32) : Prop :=
  (∀ a x, ((![v270] : Fin 1 → IVec S16 32) a x).toNat < S64.size a) ∧
  (∀ a x, ((![v270] : Fin 1 → IVec S16 32) a x).toNat < S64.size a)
theorem k0_idx27_inb : ∀ (v270 : IVec S16 32) (k0_hw14 : k0_chk14 v270), ∀ a x, ((![v270] : Fin 1 → IVec S16 32) a x).toNat < S64.size a := fun v270 k0_hw14 => k0_hw14.1
theorem k0_idx28_inb : ∀ (v270 : IVec S16 32) (k0_hw14 : k0_chk14 v270), ∀ a x, ((![v270] : Fin 1 → IVec S16 32) a x).toNat < S64.size a := fun v270 k0_hw14 => k0_hw14.2
def k0_off29 (k0_t14 : Fin k0_t14_loop.trips) : Fin 1 → Nat :=
  let c0_i32_76 : BitVec 32 := 0#32
  let c1_i32_78 : BitVec 32 := 1#32
  let arg21 : BitVec 32 := Scf.iv c0_i32_76 c1_i32_78 k0_t14
  let c16_i32_96 : BitVec 32 := 16#32
  let v276 : BitVec 32 := Scalar.muli arg21 c16_i32_96
  let v277 : Index := Scalar.indexCast v276
  ![v277.toNat]
@[reducible] def k0_t15_loop : Scf.Loop 32 :=
  let c0_i32_82 : BitVec 32 := 0#32
  let c1024_i32_83 : BitVec 32 := 1024#32
  let v231 : BitVec 32 := Scalar.addi c0_i32_82 c1024_i32_83
  let c1_i32_84 : BitVec 32 := 1#32
  ⟨c0_i32_82, v231, c1_i32_84⟩
def k0_off30 (k0_t15 : Fin k0_t15_loop.trips) : Fin 1 → Nat :=
  let c0_i32_82 : BitVec 32 := 0#32
  let c1_i32_84 : BitVec 32 := 1#32
  let arg21 : BitVec 32 := Scf.iv c0_i32_82 c1_i32_84 k0_t15
  let c16_i32 : BitVec 32 := 16#32
  let v259 : BitVec 32 := Scalar.muli arg21 c16_i32
  let v260 : Index := Scalar.indexCast v259
  ![v260.toNat]

def k0_chk15 (v270 : IVec S16 32) : Prop :=
  (∀ a x, ((![v270] : Fin 1 → IVec S16 32) a x).toNat < S64.size a) ∧
  (∀ a x, ((![v270] : Fin 1 → IVec S16 32) a x).toNat < S64.size a)
theorem k0_idx29_inb : ∀ (v270 : IVec S16 32) (k0_hw15 : k0_chk15 v270), ∀ a x, ((![v270] : Fin 1 → IVec S16 32) a x).toNat < S64.size a := fun v270 k0_hw15 => k0_hw15.1
theorem k0_idx30_inb : ∀ (v270 : IVec S16 32) (k0_hw15 : k0_chk15 v270), ∀ a x, ((![v270] : Fin 1 → IVec S16 32) a x).toNat < S64.size a := fun v270 k0_hw15 => k0_hw15.2
def k0_off31 (k0_t15 : Fin k0_t15_loop.trips) : Fin 1 → Nat :=
  let c0_i32_82 : BitVec 32 := 0#32
  let c1_i32_84 : BitVec 32 := 1#32
  let arg21 : BitVec 32 := Scf.iv c0_i32_82 c1_i32_84 k0_t15
  let c16_i32_96 : BitVec 32 := 16#32
  let v276 : BitVec 32 := Scalar.muli arg21 c16_i32_96
  let v277 : Index := Scalar.indexCast v276
  ![v277.toNat]
@[reducible] def k0_t16_loop : Scf.Loop 32 :=
  let c0_i32_88 : BitVec 32 := 0#32
  let c1024_i32_89 : BitVec 32 := 1024#32
  let v244 : BitVec 32 := Scalar.addi c0_i32_88 c1024_i32_89
  let c1_i32_90 : BitVec 32 := 1#32
  ⟨c0_i32_88, v244, c1_i32_90⟩
def k0_off32 (k0_t16 : Fin k0_t16_loop.trips) : Fin 1 → Nat :=
  let c0_i32_88 : BitVec 32 := 0#32
  let c1_i32_90 : BitVec 32 := 1#32
  let arg21 : BitVec 32 := Scf.iv c0_i32_88 c1_i32_90 k0_t16
  let c16_i32 : BitVec 32 := 16#32
  let v259 : BitVec 32 := Scalar.muli arg21 c16_i32
  let v260 : Index := Scalar.indexCast v259
  ![v260.toNat]

def k0_chk16 (v270 : IVec S16 32) : Prop :=
  (∀ a x, ((![v270] : Fin 1 → IVec S16 32) a x).toNat < S64.size a) ∧
  (∀ a x, ((![v270] : Fin 1 → IVec S16 32) a x).toNat < S64.size a)
theorem k0_idx31_inb : ∀ (v270 : IVec S16 32) (k0_hw16 : k0_chk16 v270), ∀ a x, ((![v270] : Fin 1 → IVec S16 32) a x).toNat < S64.size a := fun v270 k0_hw16 => k0_hw16.1
theorem k0_idx32_inb : ∀ (v270 : IVec S16 32) (k0_hw16 : k0_chk16 v270), ∀ a x, ((![v270] : Fin 1 → IVec S16 32) a x).toNat < S64.size a := fun v270 k0_hw16 => k0_hw16.2
def k0_off33 (k0_t16 : Fin k0_t16_loop.trips) : Fin 1 → Nat :=
  let c0_i32_88 : BitVec 32 := 0#32
  let c1_i32_90 : BitVec 32 := 1#32
  let arg21 : BitVec 32 := Scf.iv c0_i32_88 c1_i32_90 k0_t16
  let c16_i32_96 : BitVec 32 := 16#32
  let v276 : BitVec 32 := Scalar.muli arg21 c16_i32_96
  let v277 : Index := Scalar.indexCast v276
  ![v277.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8388608 : Shape := ⟨1, ![8388608]⟩
abbrev S63 : Shape := ⟨1, ![63]⟩
abbrev S_ : Shape := ⟨0, ![]⟩
abbrev S1023 : Shape := ⟨1, ![1023]⟩
abbrev S1 : Shape := ⟨1, ![1]⟩
abbrev S1024 : Shape := ⟨1, ![1024]⟩
abbrev S64 : Shape := ⟨1, ![64]⟩
abbrev S1x1024 : Shape := ⟨2, ![1, 1024]⟩
abbrev S8388608x1 : Shape := ⟨2, ![8388608, 1]⟩
abbrev S8388608x1024 : Shape := ⟨2, ![8388608, 1024]⟩
abbrev S1x64 : Shape := ⟨2, ![1, 64]⟩
abbrev S8388608x64 : Shape := ⟨2, ![8388608, 64]⟩

abbrev nBuf : Space → Nat
  | .hbm => 245
  | .vmem => 0
  | .smem => 0
  | _ => 0

abbrev hbmTy0_0 (i : Nat) : BufTy := match i % 128 with
  | 0 => ⟨S8388608, .f32⟩
  | 1 => ⟨S63, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S1023, .f32⟩
  | 10 => ⟨S_, .f32⟩
  | 11 => ⟨S1023, .f32⟩
  | 12 => ⟨S1023, .f32⟩
  | 13 => ⟨S1, .f32⟩
  | 14 => ⟨S_, .f32⟩
  | 15 => ⟨S1023, .f32⟩
  | 16 => ⟨S1023, .f32⟩
  | 17 => ⟨S1023, .f32⟩
  | 18 => ⟨S1023, .f32⟩
  | 19 => ⟨S1, .f32⟩
  | 20 => ⟨S1023, .f32⟩
  | 21 => ⟨S1023, .f32⟩
  | 22 => ⟨S1023, .f32⟩
  | 23 => ⟨S1, .f32⟩
  | 24 => ⟨S1024, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S1023, .f32⟩
  | 33 => ⟨S_, .f32⟩
  | 34 => ⟨S1023, .f32⟩
  | 35 => ⟨S1023, .f32⟩
  | 36 => ⟨S1, .f32⟩
  | 37 => ⟨S_, .f32⟩
  | 38 => ⟨S1023, .f32⟩
  | 39 => ⟨S1023, .f32⟩
  | 40 => ⟨S1023, .f32⟩
  | 41 => ⟨S1023, .f32⟩
  | 42 => ⟨S1, .f32⟩
  | 43 => ⟨S1023, .f32⟩
  | 44 => ⟨S1023, .f32⟩
  | 45 => ⟨S1023, .f32⟩
  | 46 => ⟨S1, .f32⟩
  | 47 => ⟨S1024, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S63, .f32⟩
  | 56 => ⟨S_, .f32⟩
  | 57 => ⟨S63, .f32⟩
  | 58 => ⟨S63, .f32⟩
  | 59 => ⟨S1, .f32⟩
  | 60 => ⟨S_, .f32⟩
  | 61 => ⟨S63, .f32⟩
  | 62 => ⟨S63, .f32⟩
  | 63 => ⟨S63, .f32⟩
  | 64 => ⟨S63, .f32⟩
  | 65 => ⟨S1, .f32⟩
  | 66 => ⟨S63, .f32⟩
  | 67 => ⟨S63, .f32⟩
  | 68 => ⟨S63, .f32⟩
  | 69 => ⟨S1, .f32⟩
  | 70 => ⟨S64, .f32⟩
  | 71 => ⟨S_, .f32⟩
  | 72 => ⟨S1x1024, .f32⟩
  | 73 => ⟨S8388608x1, .f32⟩
  | 74 => ⟨S8388608x1024, .f32⟩
  | 75 => ⟨S8388608x1024, .f32⟩
  | 76 => ⟨S8388608x1024, .i1⟩
  | 77 => ⟨S8388608x1024, .i32⟩
  | 78 => ⟨S_, .i32⟩
  | 79 => ⟨S8388608, .i32⟩
  | 80 => ⟨S_, .i32⟩
  | 81 => ⟨S_, .i32⟩
  | 82 => ⟨S_, .i32⟩
  | 83 => ⟨S8388608, .i32⟩
  | 84 => ⟨S8388608, .i32⟩
  | 85 => ⟨S_, .i32⟩
  | 86 => ⟨S8388608, .i32⟩
  | 87 => ⟨S8388608, .i32⟩
  | 88 => ⟨S_, .i32⟩
  | 89 => ⟨S8388608, .i32⟩
  | 90 => ⟨S8388608, .i32⟩
  | 91 => ⟨S_, .i32⟩
  | 92 => ⟨S8388608, .i32⟩
  | 93 => ⟨S8388608, .i1⟩
  | 94 => ⟨S_, .i32⟩
  | 95 => ⟨S8388608, .i32⟩
  | 96 => ⟨S8388608, .i32⟩
  | 97 => ⟨S8388608, .i32⟩
  | 98 => ⟨S8388608x1, .i32⟩
  | 99 => ⟨S8388608, .f32⟩
  | 100 => ⟨S_, .i32⟩
  | 101 => ⟨S8388608, .i32⟩
  | 102 => ⟨S8388608, .i1⟩
  | 103 => ⟨S_, .i32⟩
  | 104 => ⟨S8388608, .i32⟩
  | 105 => ⟨S8388608, .i32⟩
  | 106 => ⟨S8388608, .i32⟩
  | 107 => ⟨S8388608x1, .i32⟩
  | 108 => ⟨S8388608, .f32⟩
  | 109 => ⟨S_, .i32⟩
  | 110 => ⟨S8388608, .i32⟩
  | 111 => ⟨S8388608, .i32⟩
  | 112 => ⟨S_, .i32⟩
  | 113 => ⟨S8388608, .i32⟩
  | 114 => ⟨S8388608, .i1⟩
  | 115 => ⟨S_, .i32⟩
  | 116 => ⟨S8388608, .i32⟩
  | 117 => ⟨S8388608, .i32⟩
  | 118 => ⟨S8388608, .i32⟩
  | 119 => ⟨S8388608x1, .i32⟩
  | 120 => ⟨S8388608, .f32⟩
  | 121 => ⟨S_, .i32⟩
  | 122 => ⟨S8388608, .i32⟩
  | 123 => ⟨S8388608, .i1⟩
  | 124 => ⟨S_, .i32⟩
  | 125 => ⟨S8388608, .i32⟩
  | 126 => ⟨S8388608, .i32⟩
  | 127 => ⟨S8388608, .i32⟩
  | _ => ⟨S8388608, .f32⟩

abbrev hbmTy0_1 (i : Nat) : BufTy := match i % 128 with
  | 0 => ⟨S8388608x1, .i32⟩
  | 1 => ⟨S8388608, .f32⟩
  | 2 => ⟨S8388608, .f32⟩
  | 3 => ⟨S8388608, .f32⟩
  | 4 => ⟨S8388608, .f32⟩
  | 5 => ⟨S8388608, .f32⟩
  | 6 => ⟨S8388608, .f32⟩
  | 7 => ⟨S8388608, .f32⟩
  | 8 => ⟨S8388608, .f32⟩
  | 9 => ⟨S8388608, .f32⟩
  | 10 => ⟨S_, .f32⟩
  | 11 => ⟨S8388608, .f32⟩
  | 12 => ⟨S8388608, .f32⟩
  | 13 => ⟨S8388608, .f32⟩
  | 14 => ⟨S8388608, .f32⟩
  | 15 => ⟨S8388608, .f32⟩
  | 16 => ⟨S8388608, .f32⟩
  | 17 => ⟨S8388608, .f32⟩
  | 18 => ⟨S_, .f32⟩
  | 19 => ⟨S_, .f32⟩
  | 20 => ⟨S_, .f32⟩
  | 21 => ⟨S_, .f32⟩
  | 22 => ⟨S1, .f32⟩
  | 23 => ⟨S63, .f32⟩
  | 24 => ⟨S63, .f32⟩
  | 25 => ⟨S63, .f32⟩
  | 26 => ⟨S_, .f32⟩
  | 27 => ⟨S_, .f32⟩
  | 28 => ⟨S1, .f32⟩
  | 29 => ⟨S63, .f32⟩
  | 30 => ⟨S63, .f32⟩
  | 31 => ⟨S_, .f32⟩
  | 32 => ⟨S1, .f32⟩
  | 33 => ⟨S64, .f32⟩
  | 34 => ⟨S_, .f32⟩
  | 35 => ⟨S_, .f32⟩
  | 36 => ⟨S64, .f32⟩
  | 37 => ⟨S1x64, .f32⟩
  | 38 => ⟨S8388608x1, .f32⟩
  | 39 => ⟨S8388608x64, .f32⟩
  | 40 => ⟨S8388608x64, .f32⟩
  | 41 => ⟨S8388608x64, .i1⟩
  | 42 => ⟨S8388608x64, .i32⟩
  | 43 => ⟨S_, .i32⟩
  | 44 => ⟨S8388608, .i32⟩
  | 45 => ⟨S_, .i32⟩
  | 46 => ⟨S_, .i32⟩
  | 47 => ⟨S_, .i32⟩
  | 48 => ⟨S8388608, .i32⟩
  | 49 => ⟨S8388608, .i32⟩
  | 50 => ⟨S_, .i32⟩
  | 51 => ⟨S8388608, .i32⟩
  | 52 => ⟨S8388608, .i32⟩
  | 53 => ⟨S_, .i32⟩
  | 54 => ⟨S8388608, .i32⟩
  | 55 => ⟨S8388608, .i32⟩
  | 56 => ⟨S_, .i32⟩
  | 57 => ⟨S8388608, .i32⟩
  | 58 => ⟨S8388608, .i1⟩
  | 59 => ⟨S_, .i32⟩
  | 60 => ⟨S8388608, .i32⟩
  | 61 => ⟨S8388608, .i32⟩
  | 62 => ⟨S8388608, .i32⟩
  | 63 => ⟨S8388608x1, .i32⟩
  | 64 => ⟨S8388608, .f32⟩
  | 65 => ⟨S_, .i32⟩
  | 66 => ⟨S8388608, .i32⟩
  | 67 => ⟨S8388608, .i1⟩
  | 68 => ⟨S_, .i32⟩
  | 69 => ⟨S8388608, .i32⟩
  | 70 => ⟨S8388608, .i32⟩
  | 71 => ⟨S8388608, .i32⟩
  | 72 => ⟨S8388608x1, .i32⟩
  | 73 => ⟨S8388608, .f32⟩
  | 74 => ⟨S_, .i32⟩
  | 75 => ⟨S8388608, .i32⟩
  | 76 => ⟨S8388608, .i32⟩
  | 77 => ⟨S_, .i32⟩
  | 78 => ⟨S8388608, .i32⟩
  | 79 => ⟨S8388608, .i1⟩
  | 80 => ⟨S_, .i32⟩
  | 81 => ⟨S8388608, .i32⟩
  | 82 => ⟨S8388608, .i32⟩
  | 83 => ⟨S8388608, .i32⟩
  | 84 => ⟨S8388608x1, .i32⟩
  | 85 => ⟨S8388608, .f32⟩
  | 86 => ⟨S_, .i32⟩
  | 87 => ⟨S8388608, .i32⟩
  | 88 => ⟨S8388608, .i1⟩
  | 89 => ⟨S_, .i32⟩
  | 90 => ⟨S8388608, .i32⟩
  | 91 => ⟨S8388608, .i32⟩
  | 92 => ⟨S8388608, .i32⟩
  | 93 => ⟨S8388608x1, .i32⟩
  | 94 => ⟨S8388608, .f32⟩
  | 95 => ⟨S8388608, .f32⟩
  | 96 => ⟨S_, .f32⟩
  | 97 => ⟨S8388608, .f32⟩
  | 98 => ⟨S8388608, .f32⟩
  | 99 => ⟨S8388608, .f32⟩
  | 100 => ⟨S8388608, .f32⟩
  | 101 => ⟨S8388608, .f32⟩
  | 102 => ⟨S8388608, .f32⟩
  | 103 => ⟨S8388608, .f32⟩
  | 104 => ⟨S8388608, .f32⟩
  | 105 => ⟨S8388608, .f32⟩
  | 106 => ⟨S8388608, .f32⟩
  | 107 => ⟨S8388608, .f32⟩
  | 108 => ⟨S8388608, .f32⟩
  | 109 => ⟨S8388608, .f32⟩
  | 110 => ⟨S8388608, .f32⟩
  | 111 => ⟨S_, .f32⟩
  | 112 => ⟨S8388608, .f32⟩
  | 113 => ⟨S8388608, .f32⟩
  | 114 => ⟨S8388608, .f32⟩
  | 115 => ⟨S8388608, .f32⟩
  | 116 => ⟨S8388608, .f32⟩
  | _ => ⟨S8388608, .f32⟩

abbrev hbmTy (i : Nat) : BufTy := match i / 128 with
  | 0 => hbmTy0_0 i
  | 1 => hbmTy0_1 i
  | _ => ⟨S8388608, .f32⟩

abbrev bufTy : (tb : Table) → Fin (tcTables nBuf tb) → BufTy
  | .hbm, ⟨i, _⟩ => hbmTy i
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_cst_1 : Ref sig .tc := ⟨.hbm, 25, rfl⟩
abbrev main_v1 : Ref sig .tc := ⟨.hbm, 26, rfl⟩
abbrev main_cst_2 : Ref sig .tc := ⟨.hbm, 27, rfl⟩
abbrev main_v2 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_call1_v2 : Ref sig .tc := ⟨.hbm, 32, rfl⟩
abbrev main_call1_cst_0 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_cst_1 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v3 : Ref sig .tc := ⟨.hbm, 47, rfl⟩
abbrev main_cst_3 : Ref sig .tc := ⟨.hbm, 48, rfl⟩
abbrev main_cst_4 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_cst : Ref sig .tc := ⟨.hbm, 53, rfl⟩
abbrev main_call2_v3 : Ref sig .tc := ⟨.hbm, 54, rfl⟩
abbrev main_call2_v4 : Ref sig .tc := ⟨.hbm, 55, rfl⟩
abbrev main_call2_cst_0 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_cst_1 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_v12 : Ref sig .tc := ⟨.hbm, 65, rfl⟩
abbrev main_call2_v13 : Ref sig .tc := ⟨.hbm, 66, rfl⟩
abbrev main_call2_v14 : Ref sig .tc := ⟨.hbm, 67, rfl⟩
abbrev main_call2_v15 : Ref sig .tc := ⟨.hbm, 68, rfl⟩
abbrev main_call2_v16 : Ref sig .tc := ⟨.hbm, 69, rfl⟩
abbrev main_v4 : Ref sig .tc := ⟨.hbm, 70, rfl⟩
abbrev main_v5 : Ref sig .tc := ⟨.hbm, 71, rfl⟩
abbrev main_v6 : Ref sig .tc := ⟨.hbm, 72, rfl⟩
abbrev main_v7 : Ref sig .tc := ⟨.hbm, 73, rfl⟩
abbrev main_v8 : Ref sig .tc := ⟨.hbm, 74, rfl⟩
abbrev main_v9 : Ref sig .tc := ⟨.hbm, 75, rfl⟩
abbrev main_v10 : Ref sig .tc := ⟨.hbm, 76, rfl⟩
abbrev main_v11 : Ref sig .tc := ⟨.hbm, 77, rfl⟩
abbrev main_c : Ref sig .tc := ⟨.hbm, 78, rfl⟩
abbrev main_v12 : Ref sig .tc := ⟨.hbm, 79, rfl⟩
abbrev main_c_5 : Ref sig .tc := ⟨.hbm, 80, rfl⟩
abbrev main_c_6 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_v13 : Ref sig .tc := ⟨.hbm, 87, rfl⟩
abbrev main_c_7 : Ref sig .tc := ⟨.hbm, 88, rfl⟩
abbrev main_v14 : Ref sig .tc := ⟨.hbm, 89, rfl⟩
abbrev main_v15 : Ref sig .tc := ⟨.hbm, 90, rfl⟩
abbrev main_c_8 : Ref sig .tc := ⟨.hbm, 91, rfl⟩
abbrev main_v16 : Ref sig .tc := ⟨.hbm, 92, rfl⟩
abbrev main_v17 : Ref sig .tc := ⟨.hbm, 93, rfl⟩
abbrev main_c_9 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev main_v22 : Ref sig .tc := ⟨.hbm, 99, rfl⟩
abbrev main_c_10 : Ref sig .tc := ⟨.hbm, 100, rfl⟩
abbrev main_v23 : Ref sig .tc := ⟨.hbm, 101, rfl⟩
abbrev main_v24 : Ref sig .tc := ⟨.hbm, 102, rfl⟩
abbrev main_c_11 : Ref sig .tc := ⟨.hbm, 103, rfl⟩
abbrev main_v25 : Ref sig .tc := ⟨.hbm, 104, rfl⟩
abbrev main_v26 : Ref sig .tc := ⟨.hbm, 105, rfl⟩
abbrev main_v27 : Ref sig .tc := ⟨.hbm, 106, rfl⟩
abbrev main_v28 : Ref sig .tc := ⟨.hbm, 107, rfl⟩
abbrev main_v29 : Ref sig .tc := ⟨.hbm, 108, rfl⟩
abbrev main_c_12 : Ref sig .tc := ⟨.hbm, 109, rfl⟩
abbrev main_v30 : Ref sig .tc := ⟨.hbm, 110, rfl⟩
abbrev main_v31 : Ref sig .tc := ⟨.hbm, 111, rfl⟩
abbrev main_c_13 : Ref sig .tc := ⟨.hbm, 112, rfl⟩
abbrev main_v32 : Ref sig .tc := ⟨.hbm, 113, rfl⟩
abbrev main_v33 : Ref sig .tc := ⟨.hbm, 114, rfl⟩
abbrev main_c_14 : Ref sig .tc := ⟨.hbm, 115, rfl⟩
abbrev main_v34 : Ref sig .tc := ⟨.hbm, 116, rfl⟩
abbrev main_v35 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_c_15 : Ref sig .tc := ⟨.hbm, 121, rfl⟩
abbrev main_v39 : Ref sig .tc := ⟨.hbm, 122, rfl⟩
abbrev main_v40 : Ref sig .tc := ⟨.hbm, 123, rfl⟩
abbrev main_c_16 : Ref sig .tc := ⟨.hbm, 124, rfl⟩
abbrev main_v41 : Ref sig .tc := ⟨.hbm, 125, rfl⟩
abbrev main_v42 : Ref sig .tc := ⟨.hbm, 126, rfl⟩
abbrev main_v43 : Ref sig .tc := ⟨.hbm, 127, rfl⟩
abbrev main_v44 : Ref sig .tc := ⟨.hbm, 128, rfl⟩
abbrev main_v45 : Ref sig .tc := ⟨.hbm, 129, rfl⟩
abbrev main_v46 : Ref sig .tc := ⟨.hbm, 130, rfl⟩
abbrev main_v47 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_cst_17 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_cst_18 : Ref sig .tc := ⟨.hbm, 146, rfl⟩
abbrev main_v61 : Ref sig .tc := ⟨.hbm, 147, rfl⟩
abbrev main_cst_19 : Ref sig .tc := ⟨.hbm, 148, rfl⟩
abbrev main_v62 : Ref sig .tc := ⟨.hbm, 149, rfl⟩
abbrev main_v63 : Ref sig .tc := ⟨.hbm, 150, rfl⟩
abbrev main_v64 : Ref sig .tc := ⟨.hbm, 151, rfl⟩
abbrev main_v65 : Ref sig .tc := ⟨.hbm, 152, rfl⟩
abbrev main_v66 : Ref sig .tc := ⟨.hbm, 153, rfl⟩
abbrev main_cst_20 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_cst_21 : Ref sig .tc := ⟨.hbm, 159, rfl⟩
abbrev main_v71 : Ref sig .tc := ⟨.hbm, 160, rfl⟩
abbrev main_v72 : Ref sig .tc := ⟨.hbm, 161, rfl⟩
abbrev main_call4_call0_cst : Ref sig .tc := ⟨.hbm, 162, rfl⟩
abbrev main_call4_call0_v0 : Ref sig .tc := ⟨.hbm, 163, rfl⟩
abbrev main_v73 : Ref sig .tc := ⟨.hbm, 164, rfl⟩
abbrev main_v74 : Ref sig .tc := ⟨.hbm, 165, rfl⟩
abbrev main_v75 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_v79 : Ref sig .tc := ⟨.hbm, 170, rfl⟩
abbrev main_c_22 : Ref sig .tc := ⟨.hbm, 171, rfl⟩
abbrev main_v80 : Ref sig .tc := ⟨.hbm, 172, rfl⟩
abbrev main_c_23 : Ref sig .tc := ⟨.hbm, 173, rfl⟩
abbrev main_c_24 : Ref sig .tc := ⟨.hbm, 174, rfl⟩
abbrev main_call5_v0 : Ref sig .tc := ⟨.hbm, 175, rfl⟩
abbrev main_call5_v1 : Ref sig .tc := ⟨.hbm, 176, rfl⟩
abbrev main_call5_v2 : Ref sig .tc := ⟨.hbm, 177, rfl⟩
abbrev main_call5_v3 : Ref sig .tc := ⟨.hbm, 178, rfl⟩
abbrev main_call5_v4 : Ref sig .tc := ⟨.hbm, 179, rfl⟩
abbrev main_v81 : Ref sig .tc := ⟨.hbm, 180, rfl⟩
abbrev main_c_25 : Ref sig .tc := ⟨.hbm, 181, rfl⟩
abbrev main_v82 : Ref sig .tc := ⟨.hbm, 182, rfl⟩
abbrev main_v83 : Ref sig .tc := ⟨.hbm, 183, rfl⟩
abbrev main_c_26 : Ref sig .tc := ⟨.hbm, 184, rfl⟩
abbrev main_v84 : Ref sig .tc := ⟨.hbm, 185, rfl⟩
abbrev main_v85 : Ref sig .tc := ⟨.hbm, 186, rfl⟩
abbrev main_c_27 : Ref sig .tc := ⟨.hbm, 187, rfl⟩
abbrev main_v86 : Ref sig .tc := ⟨.hbm, 188, rfl⟩
abbrev main_v87 : Ref sig .tc := ⟨.hbm, 189, rfl⟩
abbrev main_v88 : Ref sig .tc := ⟨.hbm, 190, rfl⟩
abbrev main_v89 : Ref sig .tc := ⟨.hbm, 191, rfl⟩
abbrev main_v90 : Ref sig .tc := ⟨.hbm, 192, rfl⟩
abbrev main_c_28 : Ref sig .tc := ⟨.hbm, 193, rfl⟩
abbrev main_v91 : Ref sig .tc := ⟨.hbm, 194, rfl⟩
abbrev main_v92 : Ref sig .tc := ⟨.hbm, 195, rfl⟩
abbrev main_c_29 : Ref sig .tc := ⟨.hbm, 196, rfl⟩
abbrev main_v93 : Ref sig .tc := ⟨.hbm, 197, rfl⟩
abbrev main_v94 : Ref sig .tc := ⟨.hbm, 198, rfl⟩
abbrev main_v95 : Ref sig .tc := ⟨.hbm, 199, rfl⟩
abbrev main_v96 : Ref sig .tc := ⟨.hbm, 200, rfl⟩
abbrev main_v97 : Ref sig .tc := ⟨.hbm, 201, rfl⟩
abbrev main_c_30 : Ref sig .tc := ⟨.hbm, 202, rfl⟩
abbrev main_v98 : Ref sig .tc := ⟨.hbm, 203, rfl⟩
abbrev main_v99 : Ref sig .tc := ⟨.hbm, 204, rfl⟩
abbrev main_c_31 : Ref sig .tc := ⟨.hbm, 205, rfl⟩
abbrev main_v100 : Ref sig .tc := ⟨.hbm, 206, rfl⟩
abbrev main_v101 : Ref sig .tc := ⟨.hbm, 207, rfl⟩
abbrev main_c_32 : Ref sig .tc := ⟨.hbm, 208, rfl⟩
abbrev main_v102 : Ref sig .tc := ⟨.hbm, 209, rfl⟩
abbrev main_v103 : Ref sig .tc := ⟨.hbm, 210, rfl⟩
abbrev main_v104 : Ref sig .tc := ⟨.hbm, 211, rfl⟩
abbrev main_v105 : Ref sig .tc := ⟨.hbm, 212, rfl⟩
abbrev main_v106 : Ref sig .tc := ⟨.hbm, 213, rfl⟩
abbrev main_c_33 : Ref sig .tc := ⟨.hbm, 214, rfl⟩
abbrev main_v107 : Ref sig .tc := ⟨.hbm, 215, rfl⟩
abbrev main_v108 : Ref sig .tc := ⟨.hbm, 216, rfl⟩
abbrev main_c_34 : Ref sig .tc := ⟨.hbm, 217, rfl⟩
abbrev main_v109 : Ref sig .tc := ⟨.hbm, 218, rfl⟩
abbrev main_v110 : Ref sig .tc := ⟨.hbm, 219, rfl⟩
abbrev main_v111 : Ref sig .tc := ⟨.hbm, 220, rfl⟩
abbrev main_v112 : Ref sig .tc := ⟨.hbm, 221, rfl⟩
abbrev main_v113 : Ref sig .tc := ⟨.hbm, 222, rfl⟩
abbrev main_v114 : Ref sig .tc := ⟨.hbm, 223, rfl⟩
abbrev main_cst_35 : Ref sig .tc := ⟨.hbm, 224, rfl⟩
abbrev main_v115 : Ref sig .tc := ⟨.hbm, 225, rfl⟩
abbrev main_v116 : Ref sig .tc := ⟨.hbm, 226, rfl⟩
abbrev main_v117 : Ref sig .tc := ⟨.hbm, 227, rfl⟩
abbrev main_v118 : Ref sig .tc := ⟨.hbm, 228, rfl⟩
abbrev main_v119 : Ref sig .tc := ⟨.hbm, 229, rfl⟩
abbrev main_v120 : Ref sig .tc := ⟨.hbm, 230, rfl⟩
abbrev main_v121 : Ref sig .tc := ⟨.hbm, 231, rfl⟩
abbrev main_v122 : Ref sig .tc := ⟨.hbm, 232, rfl⟩
abbrev main_v123 : Ref sig .tc := ⟨.hbm, 233, rfl⟩
abbrev main_v124 : Ref sig .tc := ⟨.hbm, 234, rfl⟩
abbrev main_v125 : Ref sig .tc := ⟨.hbm, 235, rfl⟩
abbrev main_v126 : Ref sig .tc := ⟨.hbm, 236, rfl⟩
abbrev main_v127 : Ref sig .tc := ⟨.hbm, 237, rfl⟩
abbrev main_v128 : Ref sig .tc := ⟨.hbm, 238, rfl⟩
abbrev main_cst_36 : Ref sig .tc := ⟨.hbm, 239, rfl⟩
abbrev main_v129 : Ref sig .tc := ⟨.hbm, 240, rfl⟩
abbrev main_v130 : Ref sig .tc := ⟨.hbm, 241, rfl⟩
abbrev main_v131 : Ref sig .tc := ⟨.hbm, 242, rfl⟩
abbrev main_v132 : Ref sig .tc := ⟨.hbm, 243, rfl⟩
abbrev main_v133 : Ref sig .tc := ⟨.hbm, 244, rfl⟩

abbrev nD : Nat := 1
abbrev τ : Topo := Topo.v7x

variable {F : FTy → Type} [FloatOps F]
-- ==== Proof.Setup.lean ====
/- The schedule kernel's launch as the SparseCore launch theorem sees it: the program's pieces, the resource
   algebra (the handshakes' rounds and the transfers' counters), a vector subcore's thread, and the notion in which
   the tile's proof speaks of its memory, `Holds x v`: the thread owns memref `x` and reads `v` through it. -/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Sched

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct, none of them is a kernel's own scratch, and the SparseCores share no buffer. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters
abbrev EH : Emb UH (MT nD τ sig (HIx 1) (Elt F) ℕ UU ℕ) := embL

local notation "𝕄" => MT nD τ sig (HIx 1) (Elt F) ℕ UU ℕ

/-! ## A vector subcore's thread and what it holds -/

abbrev cV (L : grid0.Coords) : Fin τ.nSC := (L 0).castLE hcore0
abbrev jV (L : grid0.Coords) : Fin τ.nSub := (L 1).castLE hsub0
/-- The thread of the vector subcore at grid point `L` of device `d`. -/
abbrev thr (d : Dev nD) (L : grid0.Coords) : Thread nD τ := V d (cV L) (jV L)

/-- The thread owns memref `x` and reads `v` through it. -/
def Holds (d : Dev nD) (L : grid0.Coords) {s : Shape} (x : Memref sig .scVector .vmem s .f32) (v : s.Idx → Elt F .f32) : sProp 𝕄 :=
  iprop(∃ f : Buf (Elt F) (x.view.loc (thr d L)), ⌜x.view.read (Elt F) f = v⌝ ∗ (x.view.loc (thr d L) ↦[x.view.set]{fullShare} f))

/-- What the thread owes, having waited on cells of the kernel's own besides those of `W`. -/
def Owe (d : Dev nD) (L : grid0.Coords) (O : CellTallies nD τ sig (HIx 1)) (W : Waits sig (HIx 1)) : sProp 𝕄 :=
  iprop(∃ W', ⌜∀ p ∈ W', p ∈ W ∨ p.2 = none⌝ ∗ owes (thr d L) O W')

/-! ## What the kernel computes of one element -/

section Lane

variable [FloatOps F]

/-- A lane's index to read a payload at: the payloads read each lane by itself, so any does. -/
def lane0 : S16.Idx := fun a => ⟨0, by obtain rfl : a = 0 := Subsingleton.elim _ _; decide⟩

/-- The table slot the kernel looks up for the time `t`: 63 `t` truncated, plus one, clipped to 1 … 63. -/
def slot (t : F .f32) : BitVec 32 := k0_pay1 (fun _ => t) lane0
/-- The first result from the time and the two table entries: `exp (b + a t)`. -/
def gwOf (t a b : F .f32) : F .f32 := k0_pay2 (fun _ => t) (fun _ => a) (fun _ => b) lane0
/-- The second: `exp (b + a t) a`. -/
def gdOf (t a b : F .f32) : F .f32 := k0_pay3 (fun _ => t) (fun _ => a) (fun _ => b) lane0

/-- A word clipped to 1 … 63 is below 64. -/
theorem clip_lt (w : BitVec 32) : (IntOp.minsi 63#32 (IntOp.maxsi 1#32 w)).toNat < 64 := by
  unfold IntOp.minsi IntOp.maxsi
  simp only [BitVec.slt_eq_decide, decide_eq_true_eq]
  have e1 : (1#32 : BitVec 32).toInt = 1 := by decide
  have e63 : (63#32 : BitVec 32).toInt = 63 := by decide
  by_cases h1 : w.toInt < (1#32 : BitVec 32).toInt
  · rw [if_pos h1]; decide
  rw [if_neg h1]
  by_cases h2 : (63#32 : BitVec 32).toInt < w.toInt
  · rw [if_pos h2]; decide
  rw [if_neg h2]
  rw [e1] at h1; rw [e63] at h2
  rw [BitVec.toInt_eq_toNat_cond] at h1 h2
  have := w.isLt
  split at h1 <;> omega

/-- Every slot is a table index. -/
theorem slot_lt (t : F .f32) : (slot t).toNat < 64 := clip_lt _

/-- The slot as an index of the tables. -/
def slotIx (t : F .f32) : S64.Idx := fun a => ⟨(slot t).toNat, by
  obtain rfl : a = 0 := Subsingleton.elim _ _
  exact slot_lt t⟩

/-- The kernel's first result at the time `t`, from the tables `A` and `B`. -/
def gw (A B : S64.Idx → Elt F .f32) (t : F .f32) : F .f32 := gwOf t (A (slotIx t)) (B (slotIx t))
/-- The kernel's second result at the time `t`. -/
def gd (A B : S64.Idx → Elt F .f32) (t : F .f32) : F .f32 := gdOf t (A (slotIx t)) (B (slotIx t))

end Lane

end Cert.Proof.Sched

end
-- ==== Proof.Trip.lean ====
/- One trip of the kernel's inner loop, and the loop: sixteen times are read, looked up in the two tables and turned
   into sixteen elements of each result. The sixteen loops the program unrolls are one loop at different buffers. -/
module

public import proofs.«01_k».proof.Proof.Setup

@[expose] public section

noncomputable section

namespace Cert.Proof.Sched

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- A chunk buffer of the tile. -/
abbrev Chunk : Type := Memref sig .scVector .vmem S16384 .f32
/-- A table in the tile's memory. -/
abbrev Table : Type := Memref sig .scVector .vmem S64 .f32

/-- Storing `w` through a unit rectangle of 16 lanes at `16 k`: elements `16 k …` read the lanes, the others are as before. -/
theorem read_store (x : Chunk) {off : Fin 1 → ℕ} (inb : ∀ a, off a + S16.size a ≤ S16384.size a) {n : ℕ} (ho : off = ![16 * n])
    (f : x.view.ty.Contents (Elt F)) (w : S16.Idx → Elt F .f32) (P : S16384.Idx → Elt F .f32)
    (hw : ∀ l, w l = P ((Rect.unit (s := S16384) off S16.size inb).emb l))
    (hf : ∀ y : S16384.Idx, (y 0).val < 16 * n → x.view.read (Elt F) f y = P y) :
    ∀ y : S16384.Idx, (y 0).val < 16 * (n + 1) →
      x.view.read (Elt F) ((x.access (Rect.unit (s := S16384) off S16.size inb)).write (Elt F) f w Finset.univ) y = P y := by
  subst ho
  intro y hy
  by_cases hin : y ∈ (Rect.unit (s := S16384) ![16 * n] S16.size inb).set
  · rw [← Rect.map_emb_univ, Finset.mem_map] at hin
    obtain ⟨l, -, rfl⟩ := hin
    rw [View.read_slice_write_emb _ _ _ (Finset.mem_univ l)]
    exact hw l
  · rw [View.read_slice_write_of_not_mem _ _ _ _ (by rw [Rect.map_emb_univ]; exact hin)]
    refine hf y ?_
    by_contra hlt
    refine hin (Rect.mem_set_unit.mpr fun a => ?_)
    obtain rfl : a = 0 := Subsingleton.elim _ _
    have e1 : (![16 * n] : Fin 1 → ℕ) 0 = 16 * n := rfl
    have e2 : S16.size 0 = 16 := rfl
    rw [e1, e2]; omega

/-- A table read through its whole rectangle is the table. -/
theorem read_whole (t : Table) (f : t.view.ty.Contents (Elt F)) :
    (t.access (Rect.whole S64)).read (Elt F) f = t.view.read (Elt F) f := by
  funext y
  show t.view.read (Elt F) f ((Rect.whole S64).emb y) = _
  rw [Rect.emb_whole_apply]

/-- A lane of the first result's payload, from the sixteen times and the looked-up table entries. -/
theorem pay_gw (v : Vec F S16 .f32) (A B : S64.Idx → Elt F .f32) (h : k0_chk1 (k0_pay1 v)) (l : S16.Idx) :
    k0_pay2 v (loadIdx (F := F) (e := .f32) A ![k0_pay1 v] (k0_idx1_inb _ h)) (loadIdx (F := F) (e := .f32) B ![k0_pay1 v] (k0_idx2_inb _ h)) l = gw A B (v l) := by
  have hi : idxAt (s := S64) (t := S16) ![k0_pay1 v] (k0_idx1_inb _ h) l = slotIx (v l) := by
    funext a
    obtain rfl : a = 0 := Subsingleton.elim _ _
    rfl
  show gwOf (v l) (A (idxAt (s := S64) (t := S16) ![k0_pay1 v] (k0_idx1_inb _ h) l)) (B (idxAt (s := S64) (t := S16) ![k0_pay1 v] (k0_idx1_inb _ h) l)) = _
  rw [hi]; rfl

/-- A lane of the second result's. -/
theorem pay_gd (v : Vec F S16 .f32) (A B : S64.Idx → Elt F .f32) (h : k0_chk1 (k0_pay1 v)) (l : S16.Idx) :
    k0_pay3 v (loadIdx (F := F) (e := .f32) A ![k0_pay1 v] (k0_idx1_inb _ h)) (loadIdx (F := F) (e := .f32) B ![k0_pay1 v] (k0_idx2_inb _ h)) l = gd A B (v l) := by
  have hi : idxAt (s := S64) (t := S16) ![k0_pay1 v] (k0_idx1_inb _ h) l = slotIx (v l) := by
    funext a
    obtain rfl : a = 0 := Subsingleton.elim _ _
    rfl
  show gdOf (v l) (A (idxAt (s := S64) (t := S16) ![k0_pay1 v] (k0_idx1_inb _ h) l)) (B (idxAt (s := S64) (t := S16) ![k0_pay1 v] (k0_idx1_inb _ h) l)) = _
  rw [hi]; rfl

section Loop

variable (d : Dev nD) (L : grid0.Coords)
variable (tA tB : Table) (x w g : Chunk) (A B : S64.Idx → Elt F .f32) (X : S16384.Idx → Elt F .f32)

/-- The inner loop after `n` trips: the tables and the times as they are, the first `16 n` elements of each result's
    buffer computed. -/
def Inv (n : ℕ) : sProp 𝕄 :=
  iprop(Holds d L tA A ∗ Holds d L tB B ∗ Holds d L x X
    ∗ (∃ v, ⌜∀ y : S16384.Idx, (y 0).val < 16 * n → v y = gw A B (X y)⌝ ∗ Holds d L w v)
    ∗ (∃ v, ⌜∀ y : S16384.Idx, (y 0).val < 16 * n → v y = gd A B (X y)⌝ ∗ Holds d L g v))

theorem pay_lt (v : Vec F S16 .f32) (l : S16.Idx) : (k0_pay1 v l).toNat < 64 := clip_lt _

theorem chk_ok (v : Vec F S16 .f32) : k0_chk1 (k0_pay1 v) := by
  have h := pay_lt v
  generalize k0_pay1 v = w at h ⊢
  refine ⟨fun a l => ?_, fun a l => ?_⟩ <;>
  · obtain rfl : a = 0 := Subsingleton.elim _ _
    exact h l

variable (a2 : Memref sig .scVector .hbm S8388608 .f32) (h2 : a2.IsWhole) (a3 : Memref sig .scVector .hbm S64 .f32) (h3 : a3.IsWhole)
  (a4 : Memref sig .scVector .hbm S64 .f32) (h4 : a4.IsWhole) (a5 : Memref sig .scVector .hbm S8388608 .f32) (h5 : a5.IsWhole)
  (a6 : Memref sig .scVector .hbm S8388608 .f32) (h6 : a6.IsWhole) (htA : tA.IsWhole) (htB : tB.IsWhole) (hx : x.IsWhole)
  (x' : Chunk) (hx' : x'.IsWhole) (hw : w.IsWhole) (w' : Chunk) (hw' : w'.IsWhole) (hg : g.IsWhole) (g' : Chunk) (hg' : g'.IsWhole)
  (s15 s16 s17 s18 s19 s20 r0 r1 : DmaSems sig S_)

set_option maxHeartbeats 4000000 in
/-- One trip: the invariant steps on. -/
theorem trip (k : Fin k0_t1_loop.trips) (u : Unit) :
    Inv d L tA tB x w g A B X k.val
      ⊢ wp frame (wpE (defs₀ (F := F)) 𝒱₀ (thr d L) none) Set.univ
          (k0_t1_body (F := F) L a2 h2 a3 h3 a4 h4 a5 h5 a6 h6 tA htA tB htB x hx x' hx' w hw w' hw' g hg g' hg'
            s15 s16 s17 s18 s19 s20 r0 r1 k u)
          fun _ => Inv d L tA tB x w g A B X (k.val + 1) := by
  unfold Inv Holds k0_t1_body
  simp only [Prog.lift, Prog.bind_op, Prog.bind_ret, Prog.pure_eq_ret]
  iintro ⟨⟨%fA, %hA, HA⟩, ⟨%fB, %hB, HB⟩, ⟨%fX, %hX, HX⟩, ⟨%vw, %hvw, %fw, %hfw, HW⟩, ⟨%vg, %hvg, %fg, %hfg, HG⟩⟩
  subst hA hB hX hfw hfg
  iapply (wp_load 𝒱₀ (thr d L) none Set.univ (m := x) (View.setOn_subset_set _ _)) $$ HX; iintro HX
  rw [wp_assume_of _ _ _ _ (chk_ok _)]
  iapply (SparseCore.wp_vectorLoadIdx 𝒱₀ (thr d L) none Set.univ (base := tA) (View.set_slice_subset _ _)) $$ HA; iintro HA
  iapply (SparseCore.wp_vectorLoadIdx 𝒱₀ (thr d L) none Set.univ (base := tB) (View.set_slice_subset _ _)) $$ HB; iintro HB
  iapply (wp_load 𝒱₀ (thr d L) none Set.univ (m := w) (View.setOn_subset_set _ _)) $$ HW; iintro HW
  ihave HW := (Entails.of_eq (show (w.view.loc (thr d L) ↦[w.view.set]{fullShare} fw : sProp 𝕄)
    = (w.access (Rect.unit (s := S16384) (k0_off3 k) S16.size (k0_off3_inb k))).loc (thr d L) ↦[w.view.set]{fullShare} fw from rfl)) $$ HW
  iapply (wp_store 𝒱₀ (thr d L) none Set.univ (m := w) (r := Rect.unit (s := S16384) (k0_off3 k) S16.size (k0_off3_inb k)) (Mk := Finset.univ)
    (S := w.view.set) (f := fw) (View.set_slice_subset _ _)) $$ HW; iintro HW
  iapply (wp_load 𝒱₀ (thr d L) none Set.univ (m := g) (View.setOn_subset_set _ _)) $$ HG; iintro HG
  ihave HG := (Entails.of_eq (show (g.view.loc (thr d L) ↦[g.view.set]{fullShare} fg : sProp 𝕄)
    = (g.access (Rect.unit (s := S16384) (k0_off3 k) S16.size (k0_off3_inb k))).loc (thr d L) ↦[g.view.set]{fullShare} fg from rfl)) $$ HG
  iapply (wp_store 𝒱₀ (thr d L) none Set.univ (m := g) (r := Rect.unit (s := S16384) (k0_off3 k) S16.size (k0_off3_inb k)) (Mk := Finset.univ)
    (S := g.view.set) (f := fg) (View.set_slice_subset _ _)) $$ HG; iintro HG
  rw [wp_ret]; imodintro
  isplitl [HA]; · iexists fA; isplitr; · ipureintro; rfl
                  iexact HA
  isplitl [HB]; · iexists fB; isplitr; · ipureintro; rfl
                  iexact HB
  isplitl [HX]; · iexists fX; isplitr; · ipureintro; rfl
                  iexact HX
  isplitl [HW]
  · iexists _; isplitr; swap
    · iexists _; isplitr; swap
      · iexact HW
      · ipureintro; rfl
    · ipureintro
      refine read_store w (k0_off3_inb k) (k0_off3_eq k) fw _ (fun y => gw (tA.view.read (Elt F) fA) (tB.view.read (Elt F) fB) (x.view.read (Elt F) fX y))
        (fun l => ?_) hvw
      rw [read_whole, read_whole]
      exact pay_gw _ _ _ (chk_ok _) l
  · iexists _; isplitr; swap
    · iexists _; isplitr; swap
      · iexact HG
      · ipureintro; rfl
    · ipureintro
      refine read_store g (k0_off3_inb k) (k0_off3_eq k) fg _ (fun y => gd (tA.view.read (Elt F) fA) (tB.view.read (Elt F) fB) (x.view.read (Elt F) fX y))
        (fun l => ?_) hvg
      rw [read_whole, read_whole]
      exact pay_gd _ _ _ (chk_ok _) l

/-- The loop makes 1024 trips. -/
theorem loop_trips : k0_t1_loop.trips = 1024 := by decide

/-- The inner loop: from the tables and a chunk of times in the tile's memory, both results of the chunk. -/
theorem loop {β : Type} (kk : Unit → Prog (TpuEff nD τ sig (Elt F) Λ₀ (thr d L).2) β) (Q : β → sProp 𝕄) :
    iprop(Holds d L tA A ∗ Holds d L tB B ∗ Holds d L x X ∗ (∃ v, Holds d L w v) ∗ (∃ v, Holds d L g v))
      ⊢ iprop((iprop(Holds d L tA A ∗ Holds d L tB B ∗ Holds d L x X ∗ Holds d L w (fun y => gw A B (X y)) ∗ Holds d L g (fun y => gd A B (X y)))
            -∗ wp frame (wpE (defs₀ (F := F)) 𝒱₀ (thr d L) none) Set.univ (kk ⟨⟩) Q)
          -∗ wp frame (wpE (defs₀ (F := F)) 𝒱₀ (thr d L) none) Set.univ
            (Scf.Loop.for k0_t1_loop k0_t1_ok ⟨⟩ (k0_t1_body (F := F) L a2 h2 a3 h3 a4 h4 a5 h5 a6 h6 tA htA tB htB x hx x' hx' w hw w' hw' g hg g' hg'
              s15 s16 s17 s18 s19 s20 r0 r1) >>= kk) Q) := by
  iintro ⟨HA, HB, HX, ⟨%vw, HW⟩, ⟨%vg, HG⟩⟩ Hk
  iapply (Scf.wp_for_bind frame (wpE (defs₀ (F := F)) 𝒱₀ (thr d L) none) Set.univ _ _ _ k0_t1_ok () _
    (fun n _ => Inv d L tA tB x w g A B X n)
    (fun k u => trip d L tA tB x w g A B X a2 h2 a3 h3 a4 h4 a5 h5 a6 h6 htA htB hx x' hx' hw w' hw' hg g' hg' s15 s16 s17 s18 s19 s20 r0 r1 k u)) $$ [HA HB HX HW HG]
  · unfold Inv
    isplitl [HA]; · iexact HA
    isplitl [HB]; · iexact HB
    isplitl [HX]; · iexact HX
    isplitl [HW]
    · iexists vw; isplitr; · ipureintro; intro y hy; exact absurd hy (by omega)
      iexact HW
    · iexists vg; isplitr; · ipureintro; intro y hy; exact absurd hy (by omega)
      iexact HG
  iintro %u HI
  unfold Inv
  icases HI with ⟨HA, HB, HX, ⟨%v1, %e1, HW⟩, ⟨%v2, %e2, HG⟩⟩
  have hlt : ∀ y : S16384.Idx, (y 0).val < 16 * k0_t1_loop.trips := fun y => by
    rw [loop_trips]; exact (y 0).isLt
  obtain rfl : v1 = fun y => gw A B (X y) := funext fun y => e1 y (hlt y)
  obtain rfl : v2 = fun y => gd A B (X y) := funext fun y => e2 y (hlt y)
  iapply Hk
  isplitl [HA]; · iexact HA
  isplitl [HB]; · iexact HB
  isplitl [HX]; · iexact HX
  isplitl [HW]; · iexact HW
  iexact HG

end Loop

end Cert.Proof.Sched

end
-- ==== Proof.Steps.lean ====
/- The kernel's copies: the chunks of the arrays, a chunk of times fetched into the tile's memory, a chunk of a result
   sent out of it, and the waits for both. The times are read under a share lent chunk by chunk; each result's array
   is owned from a chunk to a chunk. -/
module

public import proofs.«01_k».proof.Proof.Trip

@[expose] public section

noncomputable section

namespace Cert.Proof.Sched

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

/-! ## Chunks -/

/-- An array of the launch: the times, or a result. -/
abbrev Arr : Type := Memref sig .scVector .hbm S8388608 .f32

/-- The `c`-th of the tile's sixteen chunks of 16384 elements. -/
abbrev rectC (L : grid0.Coords) (c : Fin 16) : Rect S8388608 :=
  Rect.unit (s := S8388608) (k0_off1 L (BitVec.ofNat 32 (16384 * c.val))) S16384.size (k0_off1_inb L c)

/-- The chunk of an array. -/
abbrev piece (L : grid0.Coords) (c : Fin 16) (o : Arr) : Memref sig .scVector .hbm S16384 .f32 :=
  o.slice (rectC L c) (fun _ => rfl)

/-- The number of the tile's first chunk. -/
def nOf (L : grid0.Coords) : ℕ := 32 * (L 1).val + 16 * (L 0).val

/-- The elements from chunk `a` up to chunk `b`. -/
def rng (a b : ℕ) : Finset S8388608.Idx := Finset.univ.filter fun i => 16384 * a ≤ (i 0).val ∧ (i 0).val < 16384 * b

theorem mem_rng {a b : ℕ} {i : S8388608.Idx} : i ∈ rng a b ↔ 16384 * a ≤ (i 0).val ∧ (i 0).val < 16384 * b := by
  simp [rng]

/-- A tile's chunk as a set of elements. -/
theorem rectC_set (L : grid0.Coords) (c : Fin 16) : (rectC L c).set = rng (nOf L + c.val) (nOf L + c.val + 1) := by
  ext i
  rw [Rect.mem_set_unit, mem_rng, k0_off1_eq]
  constructor
  · intro h
    have h0 := h 0
    have e1 : (![524288 * (L 1).val + 262144 * (L 0).val + 16384 * c.val] : Fin 1 → ℕ) 0 = 524288 * (L 1).val + 262144 * (L 0).val + 16384 * c.val := rfl
    have e2 : S16384.size 0 = 16384 := rfl
    rw [e1, e2] at h0
    unfold nOf
    omega
  · intro h a
    obtain rfl : a = 0 := Subsingleton.elim _ _
    have e1 : (![524288 * (L 1).val + 262144 * (L 0).val + 16384 * c.val] : Fin 1 → ℕ) 0 = 524288 * (L 1).val + 262144 * (L 0).val + 16384 * c.val := rfl
    have e2 : S16384.size 0 = 16384 := rfl
    rw [e1, e2]
    unfold nOf at h
    omega

/-- The elements a chunk's view of an array covers. -/
theorem piece_set (L : grid0.Coords) (c : Fin 16) (o : Arr) :
    (piece L c o).view.set = o.view.setOn (rng (nOf L + c.val) (nOf L + c.val + 1)) := by
  rw [← rectC_set]
  exact View.set_slice _ _

/-- An array owned from chunk `a` to chunk `c` is owned from `a` to `b` and from `b` to `c`. -/
theorem own_split (d : Dev nD) (L : grid0.Coords) (o : Arr) (q : PosShare TreeShare) {a b c : ℕ} (hab : a ≤ b) (hbc : b ≤ c) (f : Buf (Elt F) (o.view.loc (thr d L))) :
    ((o.view.loc (thr d L) ↦[o.view.setOn (rng a c)]{q} f) : sProp 𝕄)
      ⊣⊢ iprop((o.view.loc (thr d L) ↦[o.view.setOn (rng a b)]{q} f) ∗ (o.view.loc (thr d L) ↦[o.view.setOn (rng b c)]{q} f)) := by
  have hu : rng a c = rng a b ∪ rng b c := by
    ext i; simp only [Finset.mem_union, mem_rng]; omega
  have hd : Disjoint (o.view.setOn (rng a b)) (o.view.setOn (rng b c)) := by
    unfold View.setOn
    rw [Finset.disjoint_map, Finset.disjoint_left]
    intro i h1 h2
    rw [mem_rng] at h1 h2
    omega
  have hs : o.view.setOn (rng a c) = o.view.setOn (rng a b) ∪ o.view.setOn (rng b c) := by
    rw [hu]; unfold View.setOn; rw [Finset.map_union]
  rw [hs]
  exact pointsTo_union hd

section Copies

variable (d : Dev nD) (L : grid0.Coords) {α : Type}

/-- A copy of `src`, held at `f` under the share `q`, in flight into the tile's buffer `x` and announced on `sem`. -/
def Fetch {s : Shape} (sem : DmaSems sig S_) (src : Memref sig .scVector .hbm s .f32) (x : Memref sig .scVector .vmem s .f32)
    (q : PosShare TreeShare) (f : Buf (Elt F) (src.view.loc (thr d L))) : sProp 𝕄 :=
  Flight countersEmb (thr d L) (.dma sem.sem) (default : HIx 1) x.view.dmaCredit
    iprop(Holds d L x (src.view.read (Elt F) f) ∗ (src.view.loc (thr d L) ↦[src.view.set]{q} f))

/-- The tile's buffer `w` in flight to its `c`-th chunk of the result `o`, which will read `G`. -/
def Send (sem : DmaSems sig S_) (w : Chunk) (o : Arr) (G : Buf (Elt F) (o.view.loc (thr d L))) (c : Fin 16) : sProp 𝕄 :=
  Flight countersEmb (thr d L) (.dma sem.sem) (default : HIx 1) (piece L c o).view.dmaCredit
    iprop((o.view.loc (thr d L) ↦[o.view.setOn (rng (nOf L + c.val) (nOf L + c.val + 1))]{fullShare} G) ∗ ∃ v, Holds d L w v)

/-- A fetch starts: the buffer at any contents, the source under a share and the semaphore at zero. -/
theorem start_fetch {s : Shape} (hs : 0 < s.numel) (sem : DmaSems sig S_) (src : Memref sig .scVector .hbm s .f32) (x : Memref sig .scVector .vmem s .f32)
    (q : PosShare TreeShare) (f : Buf (Elt F) (src.view.loc (thr d L)))
    {h1 : src.view.WordExact} {h2 : x.view.WordExact} {h3 : DmaTarget.Typed (nD := nD) (p := (thr d L).2) .hbm (.dma sem.sem) (.here (p := (thr d L).2) x)}
    (kk : PUnit → Prog (TpuEff nD τ sig (Elt F) Λ₀ (thr d L).2) α) (Q : α → sProp 𝕄) :
    iprop((∃ v, Holds d L x v) ∗ (src.view.loc (thr d L) ↦[src.view.set]{q} f) ∗ semVal (thr d L, .dma sem.sem) 0)
      ⊢ iprop((Fetch d L sem src x q f -∗ wp frame (wpE (defs₀ (F := F)) 𝒱₀ (thr d L) none) Set.univ (kk ⟨⟩) Q)
          -∗ wp frame (wpE (defs₀ (F := F)) 𝒱₀ (thr d L) none) Set.univ
            (Prog.lift (TpuEff.enqueueDma (p := (thr d L).2) src (.here x) (.dma sem.sem) h1 h2 h3) >>= kk) Q) := by
  iintro ⟨⟨%v, HX⟩, HS, Hv⟩ Hk
  unfold Holds
  icases HX with ⟨%fx, -, HX⟩
  iapply (Transfers.wp_dmaLocal countersEmb 𝒱₀ (thr d L) none (via := .same) (k := kk) (src := src) (dst := x) (Sd := x.view.set) (default : HIx 1) x.view.dmaCredit rfl
    (View.dmaCredit_pos _ hs) (Finset.Subset.refl _)) $$ [HX HS Hv]
  · isplitl [HS]; · iexact HS
    isplitl [HX]; · iexact HX
    iexact Hv
  iintro Hfl
  iapply Hk
  unfold Fetch
  iapply (Transfers.Flight_mono countersEmb (thr d L) ?_) $$ Hfl
  iintro ⟨HX, HS⟩
  isplitl [HX]
  · unfold Holds
    iexists _
    isplitr; swap
    · iexact HX
    · ipureintro
      exact View.read_write_univ _ _
  · iexact HS

/-- The wait for a fetch. -/
theorem wait_fetch {s : Shape} (sem : DmaSems sig S_) (src : Memref sig .scVector .hbm s .f32) (x : Memref sig .scVector .vmem s .f32)
    (q : PosShare TreeShare) (f : Buf (Elt F) (src.view.loc (thr d L))) (srcw : Memref sig .scVector .hbm s .f32)
    {h1 : srcw.view.WordExact} {h2 : x.view.WordExact} {O : CellTallies nD τ sig (HIx 1)} {W : Waits sig (HIx 1)} (hO : ∀ g, O g none = 0)
    (kk : PUnit → Prog (TpuEff nD τ sig (Elt F) Λ₀ (thr d L).2) α) (Q : α → sProp 𝕄) :
    iprop(levAts (K (F := F)).L (K (F := F)).lev ∗ Fetch d L sem src x q f ∗ Owe d L O W)
      ⊢ iprop((iprop(Holds d L x (src.view.read (Elt F) f) ∗ (src.view.loc (thr d L) ↦[src.view.set]{q} f) ∗ semVal (thr d L, .dma sem.sem) 0 ∗ Owe d L O W)
            -∗ wp frame (wpE (defs₀ (F := F)) 𝒱₀ (thr d L) none) Set.univ (kk ⟨⟩) Q)
          -∗ wp frame (wpE (defs₀ (F := F)) 𝒱₀ (thr d L) none) Set.univ
            (Prog.lift (.waitDma2 sem.sem srcw x h1 h2) >>= kk) Q) := by
  iintro ⟨Hlv, Hfl, HO⟩ Hk
  unfold Owe
  icases HO with ⟨%W', %hW, HO⟩
  ihave Hm := ((K (F := F)).mayWait_none (thr := thr d L) (SemLoc.dma sem.sem) hO) $$ Hlv
  unfold Fetch
  iapply (Transfers.wp_waitLocalO countersEmb 𝒱₀ (thr d L) none (k := kk) (dstw := x) (default : HIx 1) rfl) $$ [Hfl HO Hm]
  · isplitl [Hfl]; · iexact Hfl
    isplitl [HO]; · iexact HO
    iexact Hm
  iintro ⟨⟨HX, HS⟩, Hv, HO⟩
  iapply Hk
  isplitl [HX]; · iexact HX
  isplitl [HS]; · iexact HS
  isplitl [Hv]; · iexact Hv
  iexists _
  isplitr; swap
  · iexact HO
  · ipureintro
    intro p hp
    rcases Finset.mem_insert.mp hp with rfl | hp
    · exact Or.inr rfl
    · exact hW p hp

/-- A result's chunk starts on its way: the buffer with the chunk's values, the chunk owned at any contents and the
    semaphore at zero. -/
theorem start_send (sem : DmaSems sig S_) (w : Chunk) (o : Arr) (G f : Buf (Elt F) (o.view.loc (thr d L))) (c : Fin 16)
    (v : S16384.Idx → Elt F .f32) (hv : (piece L c o).view.read (Elt F) G = v)
    {h1 : w.view.WordExact} {h2 : (piece L c o).view.WordExact} {h3 : DmaTarget.Typed (nD := nD) (p := (thr d L).2) .vmem (.dma sem.sem) (.here (p := (thr d L).2) (piece L c o))}
    (kk : PUnit → Prog (TpuEff nD τ sig (Elt F) Λ₀ (thr d L).2) α) (Q : α → sProp 𝕄) :
    iprop(Holds d L w v ∗ (o.view.loc (thr d L) ↦[o.view.setOn (rng (nOf L + c.val) (nOf L + c.val + 1))]{fullShare} f) ∗ semVal (thr d L, .dma sem.sem) 0)
      ⊢ iprop((Send d L sem w o G c -∗ wp frame (wpE (defs₀ (F := F)) 𝒱₀ (thr d L) none) Set.univ (kk ⟨⟩) Q)
          -∗ wp frame (wpE (defs₀ (F := F)) 𝒱₀ (thr d L) none) Set.univ
            (Prog.lift (TpuEff.enqueueDma (p := (thr d L).2) w (.here (piece L c o)) (.dma sem.sem) h1 h2 h3) >>= kk) Q) := by
  rw [← piece_set]
  iintro ⟨HW, HS, Hv⟩ Hk
  unfold Holds
  icases HW with ⟨%fw, %hw, HW⟩
  ihave HS := (Entails.of_eq (show (o.view.loc (thr d L) ↦[(piece L c o).view.set]{fullShare} f : sProp 𝕄)
    = (piece L c o).view.loc (thr d L) ↦[(piece L c o).view.set]{fullShare} f from rfl)) $$ HS
  iapply (Transfers.wp_dmaLocal countersEmb 𝒱₀ (thr d L) none (via := .same) (k := kk) (src := w) (dst := piece L c o) (Sd := (piece L c o).view.set) (default : HIx 1) (piece L c o).view.dmaCredit rfl
    (View.dmaCredit_pos _ (by decide)) (Finset.Subset.refl _)) $$ [HW HS Hv]
  · isplitl [HW]; · iexact HW
    isplitl [HS]; · iexact HS
    iexact Hv
  iintro Hfl
  iapply Hk
  unfold Send
  rw [← piece_set]
  iapply (Transfers.Flight_mono countersEmb (thr d L) ?_) $$ Hfl
  iintro ⟨HS, HW⟩
  isplitl [HS]
  · iapply (Entails.of_eq (pointsTo_congr (fun i hi => ?_))) $$ HS
    obtain ⟨y, -, rfl⟩ := Finset.mem_map.mp hi
    rw [View.write_emb_of_mem _ _ (Finset.mem_univ _)]
    have e := congrFun (hv.trans hw.symm) y
    rw [ReadAs.apply_same, ← e, View.read_apply, cast_cast, cast_eq]
  · iexists v
    unfold Holds
    iexists fw
    isplitr; · ipureintro; exact hw
    iexact HW

/-- The wait for a result's chunk. -/
theorem wait_send (sem : DmaSems sig S_) (w : Chunk) (o : Arr) (G : Buf (Elt F) (o.view.loc (thr d L))) (c : Fin 16)
    {h1 : w.view.WordExact} {h2 : (piece L c o).view.WordExact} {O : CellTallies nD τ sig (HIx 1)} {W : Waits sig (HIx 1)} (hO : ∀ g, O g none = 0)
    (kk : PUnit → Prog (TpuEff nD τ sig (Elt F) Λ₀ (thr d L).2) α) (Q : α → sProp 𝕄) :
    iprop(levAts (K (F := F)).L (K (F := F)).lev ∗ Send d L sem w o G c ∗ Owe d L O W)
      ⊢ iprop((iprop((o.view.loc (thr d L) ↦[o.view.setOn (rng (nOf L + c.val) (nOf L + c.val + 1))]{fullShare} G) ∗ (∃ v, Holds d L w v)
              ∗ semVal (thr d L, .dma sem.sem) 0 ∗ Owe d L O W)
            -∗ wp frame (wpE (defs₀ (F := F)) 𝒱₀ (thr d L) none) Set.univ (kk ⟨⟩) Q)
          -∗ wp frame (wpE (defs₀ (F := F)) 𝒱₀ (thr d L) none) Set.univ
            (Prog.lift (.waitDma2 sem.sem w (piece L c o) h1 h2) >>= kk) Q) := by
  iintro ⟨Hlv, Hfl, HO⟩ Hk
  unfold Owe
  icases HO with ⟨%W', %hW, HO⟩
  ihave Hm := ((K (F := F)).mayWait_none (thr := thr d L) (SemLoc.dma sem.sem) hO) $$ Hlv
  unfold Send
  iapply (Transfers.wp_waitLocalO countersEmb 𝒱₀ (thr d L) none (k := kk) (dstw := piece L c o) (default : HIx 1) rfl) $$ [Hfl HO Hm]
  · isplitl [Hfl]; · iexact Hfl
    isplitl [HO]; · iexact HO
    iexact Hm
  iintro ⟨⟨HS, HW⟩, Hv, HO⟩
  iapply Hk
  isplitl [HS]; · iexact HS
  isplitl [HW]; · iexact HW
  isplitl [Hv]; · iexact Hv
  iexists _
  isplitr; swap
  · iexact HO
  · ipureintro
    intro p hp
    rcases Finset.mem_insert.mp hp with rfl | hp
    · exact Or.inr rfl
    · exact hW p hp

end Copies

end Cert.Proof.Sched

end
-- ==== Proof.Tile.lean ====
/- The tile's task. Of its sixteen chunks each is fetched, turned into a chunk of both results and sent out, through
   two buffers for each array in turn: while one chunk is being computed the next is on its way in and the last ones are
   on their way out. `half` is the program's step for one chunk, `mid` the two steps of a chunk and the next. -/
module

public import proofs.«01_k».proof.Proof.Steps

@[expose] public section

noncomputable section

namespace Cert.Proof.Sched

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

/-! ## The pieces of a tile's state -/

section State

variable (d : Dev nD) (L : grid0.Coords) (a2 : Arr) (fT : Buf (Elt F) (a2.view.loc (thr d L)))
  (tA tB : Table) (A B : S64.Idx → Elt F .f32) (O : CellTallies nD τ sig (HIx 1)) (W : Waits sig (HIx 1))

/-- What every step keeps: the levels, both tables and what the thread owes. -/
def Env : sProp 𝕄 := iprop(levAts (K (F := F)).L (K (F := F)).lev ∗ Holds d L tA A ∗ Holds d L tB B ∗ Owe d L O W)

/-- No chunk on its way into `x`. -/
def Idle (sem : DmaSems sig S_) (x : Chunk) (q : PosShare TreeShare) : sProp 𝕄 :=
  iprop((∃ v, Holds d L x v) ∗ (a2.view.loc (thr d L) ↦[a2.view.set]{q} fT) ∗ semVal (thr d L, .dma sem.sem) 0)

/-- The `c`-th chunk of times on its way into `x`. -/
def Coming (sem : DmaSems sig S_) (x : Chunk) (q : PosShare TreeShare) (c : Fin 16) : sProp 𝕄 :=
  iprop(Fetch d L sem (piece L c a2) x q fT ∗ (a2.view.loc (thr d L) ↦[a2.view.set \ (piece L c a2).view.set]{q} fT))

/-- The values of the `c`-th chunk of times. -/
abbrev tms (c : Fin 16) : S16384.Idx → Elt F .f32 := (piece L c a2).view.read (Elt F) fT

/-- The second result's `c`-th chunk computed in `g`, not yet sent. -/
def Ready (sem : DmaSems sig S_) (g : Chunk) (c : Fin 16) : sProp 𝕄 :=
  iprop(Holds d L g (fun y => gd A B (tms d L a2 fT c y)) ∗ semVal (thr d L, .dma sem.sem) 0)

/-- The array `o` owned from the tile's chunk `a` up to its chunk `b`. -/
def Own (o : Arr) (f : Buf (Elt F) (o.view.loc (thr d L))) (a b : ℕ) : sProp 𝕄 :=
  iprop(o.view.loc (thr d L) ↦[o.view.setOn (rng (nOf L + a) (nOf L + b))]{fullShare} f)

end State

section Half

variable (d : Dev nD) (L : grid0.Coords)
  (a2 : Arr) (h2 : a2.IsWhole) (a3 : Memref sig .scVector .hbm S64 .f32) (h3 : a3.IsWhole)
  (a4 : Memref sig .scVector .hbm S64 .f32) (h4 : a4.IsWhole) (a5 : Arr) (h5 : a5.IsWhole) (a6 : Arr) (h6 : a6.IsWhole)
  (tA : Table) (htA : tA.IsWhole) (tB : Table) (htB : tB.IsWhole)
  (x : Chunk) (hx : x.IsWhole) (x' : Chunk) (hx' : x'.IsWhole) (w : Chunk) (hw : w.IsWhole) (w' : Chunk) (hw' : w'.IsWhole)
  (g : Chunk) (hg : g.IsWhole) (g' : Chunk) (hg' : g'.IsWhole)
  (s15 s16 s17 s18 s19 s20 r0 r1 : DmaSems sig S_)
  (fT : Buf (Elt F) (a2.view.loc (thr d L))) (A B : S64.Idx → Elt F .f32)
  (f1 G1 : Buf (Elt F) (a5.view.loc (thr d L))) (f2 G2 : Buf (Elt F) (a6.view.loc (thr d L)))
  (O : CellTallies nD τ sig (HIx 1)) (W : Waits sig (HIx 1)) {α : Type}

/-- A program of the tile's. -/
abbrev TProg (L : grid0.Coords) (α : Type) : Type 1 := Prog (TpuEff nD τ sig (Elt F) Λ₀ (.scVector ((L 0).castLE hcore0) ((L 1).castLE hsub0))) α

/-- A chunk of times is sent for. -/
theorem start_in (sem : DmaSems sig S_) (q : PosShare TreeShare) (c : Fin 16)
    {e1 : (piece L c a2).view.WordExact} {e2 : x.view.WordExact} {e3 : DmaTarget.Typed (nD := nD) (p := (thr d L).2) .hbm (.dma sem.sem) (.here (p := (thr d L).2) x)}
    (kk : PUnit → Prog (TpuEff nD τ sig (Elt F) Λ₀ (thr d L).2) α) (Q : α → sProp 𝕄) :
    Idle d L a2 fT sem x q
      ⊢ iprop((Coming d L a2 fT sem x q c -∗ wp frame (wpE (defs₀ (F := F)) 𝒱₀ (thr d L) none) Set.univ (kk ⟨⟩) Q)
          -∗ wp frame (wpE (defs₀ (F := F)) 𝒱₀ (thr d L) none) Set.univ
            (Prog.lift (TpuEff.enqueueDma (p := (thr d L).2) (piece L c a2) (.here x) (.dma sem.sem) e1 e2 e3) >>= kk) Q) := by
  unfold Idle
  iintro ⟨HX, HT, Hv⟩ Hk
  ihave HT := (pointsTo_split_subset (View.set_slice_subset (v := a2.view) (rectC L c))).1 $$ HT
  icases HT with ⟨HT, HR⟩
  iapply (start_fetch d L (by decide) sem (piece L c a2) x q fT kk Q) $$ [HX HT Hv]
  · isplitl [HX]; · iexact HX
    isplitl [HT]; · iexact HT
    iexact Hv
  iintro HF
  iapply Hk
  unfold Coming
  isplitl [HF]; · iexact HF
  iexact HR

/-- The wait for a chunk of times. -/
theorem wait_in (hO : ∀ g, O g none = 0) (sem : DmaSems sig S_) (q : PosShare TreeShare) (c : Fin 16)
    {e1 : (piece L c a2).view.WordExact} {e2 : x.view.WordExact}
    (kk : PUnit → Prog (TpuEff nD τ sig (Elt F) Λ₀ (thr d L).2) α) (Q : α → sProp 𝕄) :
    iprop(Env d L tA tB A B O W ∗ Coming d L a2 fT sem x q c)
      ⊢ iprop((iprop(Env d L tA tB A B O W ∗ Holds d L x (tms d L a2 fT c) ∗ (a2.view.loc (thr d L) ↦[a2.view.set]{q} fT) ∗ semVal (thr d L, .dma sem.sem) 0)
            -∗ wp frame (wpE (defs₀ (F := F)) 𝒱₀ (thr d L) none) Set.univ (kk ⟨⟩) Q)
          -∗ wp frame (wpE (defs₀ (F := F)) 𝒱₀ (thr d L) none) Set.univ
            (Prog.lift (.waitDma2 sem.sem (piece L c a2) x e1 e2) >>= kk) Q) := by
  unfold Env Coming
  iintro ⟨⟨#Hlv, HA, HB, HO⟩, HF, HR⟩ Hk
  iapply (wait_fetch d L sem (piece L c a2) x q fT (piece L c a2) hO kk Q) $$ [HF HO]
  · isplitr; · iexact Hlv
    isplitl [HF]; · iexact HF
    iexact HO
  iintro ⟨HX, HT, Hv, HO⟩
  ihave HT := (pointsTo_split_subset (q := q) (f := fT) (View.set_slice_subset (v := a2.view) (rectC L c))).2 $$ [HT HR]
  · isplitl [HT]; · iexact HT
    iexact HR
  iapply Hk
  isplitl [HA HB HO]
  · isplitr; · iexact Hlv
    isplitl [HA]; · iexact HA
    isplitl [HB]; · iexact HB
    iexact HO
  isplitl [HX]; · iexact HX
  isplitl [HT]; · iexact HT
  iexact Hv

/-- The wait for a chunk of a result. -/
theorem wait_out (hO : ∀ g, O g none = 0) (sem : DmaSems sig S_) (o : Arr) (G : Buf (Elt F) (o.view.loc (thr d L))) (c : Fin 16)
    {e1 : w.view.WordExact} {e2 : (piece L c o).view.WordExact}
    (kk : PUnit → Prog (TpuEff nD τ sig (Elt F) Λ₀ (thr d L).2) α) (Q : α → sProp 𝕄) :
    iprop(Env d L tA tB A B O W ∗ Send d L sem w o G c)
      ⊢ iprop((iprop(Env d L tA tB A B O W ∗ Own d L o G c.val (c.val + 1) ∗ (∃ v, Holds d L w v) ∗ semVal (thr d L, .dma sem.sem) 0)
            -∗ wp frame (wpE (defs₀ (F := F)) 𝒱₀ (thr d L) none) Set.univ (kk ⟨⟩) Q)
          -∗ wp frame (wpE (defs₀ (F := F)) 𝒱₀ (thr d L) none) Set.univ
            (Prog.lift (.waitDma2 sem.sem w (piece L c o) e1 e2) >>= kk) Q) := by
  unfold Env Own
  iintro ⟨⟨#Hlv, HA, HB, HO⟩, HF⟩ Hk
  iapply (wait_send d L sem w o G c hO kk Q) $$ [HF HO]
  · isplitr; · iexact Hlv
    isplitl [HF]; · iexact HF
    iexact HO
  iintro ⟨HS, HW, Hv, HO⟩
  iapply Hk
  isplitl [HA HB HO]
  · isplitr; · iexact Hlv
    isplitl [HA]; · iexact HA
    isplitl [HB]; · iexact HB
    iexact HO
  isplitl [HS]; · iexact HS
  isplitl [HW]; · iexact HW
  iexact Hv

/-- The inner loop on a chunk of times. -/
theorem comp (X : S16384.Idx → Elt F .f32) (kk : Unit → Prog (TpuEff nD τ sig (Elt F) Λ₀ (thr d L).2) α) (Q : α → sProp 𝕄) :
    iprop(Env d L tA tB A B O W ∗ Holds d L x X ∗ (∃ v, Holds d L w v) ∗ (∃ v, Holds d L g v))
      ⊢ iprop((iprop(Env d L tA tB A B O W ∗ Holds d L x X ∗ Holds d L w (fun y => gw A B (X y)) ∗ Holds d L g (fun y => gd A B (X y)))
            -∗ wp frame (wpE (defs₀ (F := F)) 𝒱₀ (thr d L) none) Set.univ (kk ⟨⟩) Q)
          -∗ wp frame (wpE (defs₀ (F := F)) 𝒱₀ (thr d L) none) Set.univ
            (Scf.Loop.for k0_t1_loop k0_t1_ok ⟨⟩ (k0_t1_body (F := F) L a2 h2 a3 h3 a4 h4 a5 h5 a6 h6 tA htA tB htB x hx x' hx' w hw w' hw' g hg g' hg'
              s15 s16 s17 s18 s19 s20 r0 r1) >>= kk) Q) := by
  unfold Env
  iintro ⟨⟨Hlv, HA, HB, HO⟩, HX, HW, HG⟩ Hk
  iapply (loop d L tA tB x w g A B X a2 h2 a3 h3 a4 h4 a5 h5 a6 h6 htA htB hx x' hx' hw w' hw' hg g' hg' s15 s16 s17 s18 s19 s20 r0 r1 kk Q) $$ [HA HB HX HW HG]
  · isplitl [HA]; · iexact HA
    isplitl [HB]; · iexact HB
    isplitl [HX]; · iexact HX
    isplitl [HW]; · iexact HW
    iexact HG
  iintro ⟨HA, HB, HX, HW, HG⟩
  iapply Hk
  isplitl [Hlv HA HB HO]
  · isplitl [Hlv]; · iexact Hlv
    isplitl [HA]; · iexact HA
    isplitl [HB]; · iexact HB
    iexact HO
  isplitl [HX]; · iexact HX
  isplitl [HW]; · iexact HW
  iexact HG

/-- A chunk of the whole result reads what the kernel computes of the chunk of times. -/
theorem chunk_read (o : Arr) (G : Buf (Elt F) (o.view.loc (thr d L))) (φ : Elt F .f32 → Elt F .f32)
    (hG : o.view.read (Elt F) G = fun i => φ (a2.view.read (Elt F) fT i)) (c : Fin 16) :
    (piece L c o).view.read (Elt F) G = fun y => φ (tms d L a2 fT c y) :=
  funext fun y => congrFun hG ((rectC L c).emb y)

/-- The program's step for the chunk `c`, after the chunk `p` two before and with the chunk `n` next: wait for the times, send for the
    next, wait for the buffers of the chunk two before to be sent, compute, send the first result. -/
def half (sI sI' sW sG : DmaSems sig S_) (p c n : Fin 16) (kk : Unit → TProg (F := F) L α) : TProg (F := F) L α := do
  Prog.lift (.waitDma2 sI.sem (piece L c a2) x (View.wordExact_bits rfl) hx.wordExact)
  Prog.lift (.enqueueDma (piece L n a2) (.here x') (.dma sI'.sem) (View.wordExact_bits rfl) hx'.wordExact ⟨Or.inl rfl, trivial⟩)
  Prog.lift (.waitDma2 sW.sem w (piece L p a5) hw.wordExact (View.wordExact_bits rfl))
  Prog.lift (.waitDma2 sG.sem g (piece L p a6) hg.wordExact (View.wordExact_bits rfl))
  Scf.Loop.for k0_t1_loop k0_t1_ok ⟨⟩ (k0_t1_body (F := F) L a2 h2 a3 h3 a4 h4 a5 h5 a6 h6 tA htA tB htB x hx x' hx' w hw w' hw' g hg g' hg'
    s15 s16 s17 s18 s19 s20 r0 r1)
  Prog.lift (.enqueueDma w (.here (piece L c a5)) (.dma sW.sem) hw.wordExact (View.wordExact_bits rfl) ⟨Or.inl rfl, trivial⟩)
  kk ⟨⟩

/-- The step's effect. -/
theorem wp_half (hO : ∀ g, O g none = 0) (hG1 : a5.view.read (Elt F) G1 = fun i => gw A B (a2.view.read (Elt F) fT i))
    (sI sI' sW sG : DmaSems sig S_) (q q' : PosShare TreeShare) (p c n : Fin 16) (kk : Unit → TProg (F := F) L α) (Q : α → sProp 𝕄) :
    iprop(Env d L tA tB A B O W ∗ Coming d L a2 fT sI x q c ∗ Idle d L a2 fT sI' x' q' ∗ Send d L sW w a5 G1 p ∗ Send d L sG g a6 G2 p
        ∗ Own d L a5 f1 c.val (c.val + 1))
      ⊢ iprop((iprop(Env d L tA tB A B O W ∗ Idle d L a2 fT sI x q ∗ Coming d L a2 fT sI' x' q' n ∗ Own d L a5 G1 p.val (p.val + 1)
              ∗ Own d L a6 G2 p.val (p.val + 1) ∗ Send d L sW w a5 G1 c ∗ Ready d L a2 fT A B sG g c)
            -∗ wp frame (wpE (defs₀ (F := F)) 𝒱₀ (thr d L) none) Set.univ (kk ⟨⟩) Q)
          -∗ wp frame (wpE (defs₀ (F := F)) 𝒱₀ (thr d L) none) Set.univ
            (half L a2 h2 a3 h3 a4 h4 a5 h5 a6 h6 tA htA tB htB x hx x' hx' w hw w' hw' g hg g' hg' s15 s16 s17 s18 s19 s20 r0 r1 sI sI' sW sG p c n kk) Q) := by
  iintro ⟨HE, HC, HI, HSW, HSG, Ho⟩ Hk
  unfold half
  iapply (wait_in d L a2 tA tB x fT A B O W hO sI q c) $$ [HE HC]
  · isplitl [HE]; · iexact HE
    iexact HC
  iintro ⟨HE, HX, HT, Hv⟩
  iapply (start_in d L a2 x' fT sI' q' n) $$ HI
  iintro HC
  iapply (wait_out d L tA tB w A B O W hO sW a5 G1 p) $$ [HE HSW]
  · isplitl [HE]; · iexact HE
    iexact HSW
  iintro ⟨HE, Hp1, HW, HvW⟩
  iapply (wait_out d L tA tB g A B O W hO sG a6 G2 p) $$ [HE HSG]
  · isplitl [HE]; · iexact HE
    iexact HSG
  iintro ⟨HE, Hp2, HG, HvG⟩
  iapply (comp d L a2 h2 a3 h3 a4 h4 a5 h5 a6 h6 tA htA tB htB x hx x' hx' w hw w' hw' g hg g' hg' s15 s16 s17 s18 s19 s20 r0 r1 A B O W (tms d L a2 fT c)) $$ [HE HX HW HG]
  · isplitl [HE]; · iexact HE
    isplitl [HX]; · iexact HX
    isplitl [HW]; · iexact HW
    iexact HG
  iintro ⟨HE, HX, HW, HG⟩
  unfold Own
  iapply (start_send d L sW w a5 G1 f1 c _ (chunk_read d L a2 fT a5 G1 (gw A B) hG1 c)) $$ [HW Ho HvW]
  · isplitl [HW]; · iexact HW
    isplitl [Ho]; · iexact Ho
    iexact HvW
  iintro HSW
  iapply Hk
  isplitl [HE]; · iexact HE
  isplitl [HX HT Hv]
  · unfold Idle
    isplitl [HX]; · iexists _; iexact HX
    isplitl [HT]; · iexact HT
    iexact Hv
  isplitl [HC]; · iexact HC
  isplitl [Hp1]; · iexact Hp1
  isplitl [Hp2]; · iexact Hp2
  isplitl [HSW]; · iexact HSW
  unfold Ready
  isplitl [HG]; · iexact HG
  iexact HvG

end Half

end Cert.Proof.Sched

end
-- ==== Proof.Body.lean ====
/- The tile's task from beginning to end: the program's parts, each the steps of two chunks, one after the other. -/
module

public import proofs.«01_k».proof.Proof.Tile

@[expose] public section

noncomputable section

namespace Cert.Proof.Sched

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

section Parts

variable (d : Dev nD) (L : grid0.Coords)
  (a2 : Arr) (h2 : a2.IsWhole) (a3 : Memref sig .scVector .hbm S64 .f32) (h3 : a3.IsWhole)
  (a4 : Memref sig .scVector .hbm S64 .f32) (h4 : a4.IsWhole) (a5 : Arr) (h5 : a5.IsWhole) (a6 : Arr) (h6 : a6.IsWhole)
  (tA : Table) (htA : tA.IsWhole) (tB : Table) (htB : tB.IsWhole)
  (x0 : Chunk) (hx0 : x0.IsWhole) (x1 : Chunk) (hx1 : x1.IsWhole) (w0 : Chunk) (hw0 : w0.IsWhole) (w1 : Chunk) (hw1 : w1.IsWhole)
  (g0 : Chunk) (hg0 : g0.IsWhole) (g1 : Chunk) (hg1 : g1.IsWhole)
  (s15 s16 s17 s18 s19 s20 r0 r1 : DmaSems sig S_)
  (fT : Buf (Elt F) (a2.view.loc (thr d L))) (fA : Buf (Elt F) (a3.view.loc (thr d L))) (fB : Buf (Elt F) (a4.view.loc (thr d L)))
  (q q' qA qB : PosShare TreeShare) (A B : S64.Idx → Elt F .f32)
  (f1 G1 : Buf (Elt F) (a5.view.loc (thr d L))) (f2 G2 : Buf (Elt F) (a6.view.loc (thr d L)))
  (O : CellTallies nD τ sig (HIx 1)) (W : Waits sig (HIx 1))

/-- The first chunk of an owned range set apart. -/
theorem own_take (o : Arr) (f : Buf (Elt F) (o.view.loc (thr d L))) (a b : ℕ) (h : a < b) :
    Own d L o f a b ⊢ iprop(Own d L o f a (a + 1) ∗ Own d L o f (a + 1) b) :=
  (own_split d L o fullShare (by omega) (by omega) f).1

/-- A chunk joined to the owned range before it. -/
theorem own_put (o : Arr) (f : Buf (Elt F) (o.view.loc (thr d L))) (b : ℕ) :
    iprop(Own d L o f 0 b ∗ Own d L o f b (b + 1)) ⊢ Own d L o f 0 (b + 1) :=
  (own_split d L o fullShare (by omega) (by omega) f).2

/-- No chunk at all is owned for nothing. -/
theorem own_nil (o : Arr) (f : Buf (Elt F) (o.view.loc (thr d L))) : (emp : sProp 𝕄) ⊢ Own d L o f 0 0 := by
  unfold Own
  have h : rng (nOf L + 0) (nOf L + 0) = ∅ := by
    ext i; rw [mem_rng]; simp only [Finset.notMem_empty, iff_false]; omega
  rw [h, show o.view.setOn (∅ : Finset S8388608.Idx) = ∅ from Finset.map_empty _]
  exact Entails.of_eq pointsTo_empty.symm

/-- The second result's chunk is sent. -/
theorem send_ready (hG2 : a6.view.read (Elt F) G2 = fun i => gd A B (a2.view.read (Elt F) fT i)) (sem : DmaSems sig S_) (g : Chunk) (c : Fin 16)
    {e1 : g.view.WordExact} {e2 : (piece L c a6).view.WordExact} {e3 : DmaTarget.Typed (nD := nD) (p := (thr d L).2) .vmem (.dma sem.sem) (.here (p := (thr d L).2) (piece L c a6))}
    {α : Type} (kk : PUnit.{1} → Prog (TpuEff nD τ sig (Elt F) Λ₀ (thr d L).2) α) (Q : α → sProp 𝕄) :
    iprop(Ready d L a2 fT A B sem g c ∗ Own d L a6 f2 c.val (c.val + 1))
      ⊢ iprop((Send d L sem g a6 G2 c -∗ wp frame (wpE (defs₀ (F := F)) 𝒱₀ (thr d L) none) Set.univ (kk ⟨⟩) Q)
          -∗ wp frame (wpE (defs₀ (F := F)) 𝒱₀ (thr d L) none) Set.univ
            (Prog.lift (TpuEff.enqueueDma (p := (thr d L).2) g (.here (piece L c a6)) (.dma sem.sem) e1 e2 e3) >>= kk) Q) := by
  unfold Ready Own
  iintro ⟨⟨HG, Hv⟩, Ho⟩ Hk
  iapply (start_send d L sem g a6 G2 f2 c _ (chunk_read d L a2 fT a6 G2 (gd A B) hG2 c)) $$ [HG Ho Hv]
  · isplitl [HG]; · iexact HG
    isplitl [Ho]; · iexact Ho
    iexact Hv
  iintro HS
  iapply Hk
  iexact HS

/-- The first result's chunk is sent. -/
theorem send_first (sem : DmaSems sig S_) (w : Chunk) (c : Fin 16) (v : S16384.Idx → Elt F .f32) (hv : (piece L c a5).view.read (Elt F) G1 = v)
    {e1 : w.view.WordExact} {e2 : (piece L c a5).view.WordExact} {e3 : DmaTarget.Typed (nD := nD) (p := (thr d L).2) .vmem (.dma sem.sem) (.here (p := (thr d L).2) (piece L c a5))}
    {α : Type} (kk : PUnit.{1} → Prog (TpuEff nD τ sig (Elt F) Λ₀ (thr d L).2) α) (Q : α → sProp 𝕄) :
    iprop(Holds d L w v ∗ Own d L a5 f1 c.val (c.val + 1) ∗ semVal (thr d L, .dma sem.sem) 0)
      ⊢ iprop((Send d L sem w a5 G1 c -∗ wp frame (wpE (defs₀ (F := F)) 𝒱₀ (thr d L) none) Set.univ (kk ⟨⟩) Q)
          -∗ wp frame (wpE (defs₀ (F := F)) 𝒱₀ (thr d L) none) Set.univ
            (Prog.lift (TpuEff.enqueueDma (p := (thr d L).2) w (.here (piece L c a5)) (.dma sem.sem) e1 e2 e3) >>= kk) Q) :=
  start_send d L sem w a5 G1 f1 c v hv kk Q

/-- What the steps leave alone: the tables in the launch's memory and the two semaphores of their copies. -/
def Keep : sProp 𝕄 :=
  iprop((a3.view.loc (thr d L) ↦[a3.view.set]{qA} fA) ∗ (a4.view.loc (thr d L) ↦[a4.view.set]{qB} fB)
    ∗ semVal (thr d L, .dma r0.sem) 0 ∗ semVal (thr d L, .dma r1.sem) 0)

/-- Between the program's parts: the chunk `c` on its way in, both results of the chunk `p` two before and the first
    of the chunk `r` before it on their way out, the second of `r` computed; everything before is done. -/
def Mid (p r c : Fin 16) : sProp 𝕄 :=
  iprop(Env d L tA tB A B O W ∗ Keep d L a3 a4 r0 r1 fA fB qA qB ∗ Coming d L a2 fT s15 x0 q c ∗ Idle d L a2 fT s16 x1 q'
    ∗ Send d L s17 w0 a5 G1 p ∗ Send d L s19 g0 a6 G2 p ∗ Send d L s18 w1 a5 G1 r ∗ Ready d L a2 fT A B s20 g1 r
    ∗ Own d L a5 G1 0 p.val ∗ Own d L a5 f1 c.val 16 ∗ Own d L a6 G2 0 p.val ∗ Own d L a6 f2 r.val 16)

/-- The program's steps for the chunks `c` and `n`, between the chunks `p`, `r` before and `m` after. -/
def mid (p r c n m : Fin 16) {α : Type} (a : α) : TProg (F := F) L α := do
  Prog.lift (.enqueueDma g1 (.here (piece L r a6)) (.dma s20.sem) hg1.wordExact (View.wordExact_bits rfl) ⟨Or.inl rfl, trivial⟩)
  half L a2 h2 a3 h3 a4 h4 a5 h5 a6 h6 tA htA tB htB x0 hx0 x1 hx1 w0 hw0 w1 hw1 g0 hg0 g1 hg1 s15 s16 s17 s18 s19 s20 r0 r1 s15 s16 s17 s19 p c n fun _ => do
    Prog.lift (.enqueueDma g0 (.here (piece L c a6)) (.dma s19.sem) hg0.wordExact (View.wordExact_bits rfl) ⟨Or.inl rfl, trivial⟩)
    half L a2 h2 a3 h3 a4 h4 a5 h5 a6 h6 tA htA tB htB x1 hx1 x0 hx0 w1 hw1 w0 hw0 g1 hg1 g0 hg0 s15 s16 s17 s18 s19 s20 r0 r1 s16 s15 s18 s20 r n m fun _ => pure a

/-- Two chunks further. -/
theorem wp_mid (hO : ∀ g, O g none = 0) (hG1 : a5.view.read (Elt F) G1 = fun i => gw A B (a2.view.read (Elt F) fT i))
    (hG2 : a6.view.read (Elt F) G2 = fun i => gd A B (a2.view.read (Elt F) fT i))
    (p r c n m : Fin 16) (hr : r.val = p.val + 1) (hc : c.val = r.val + 1) (hn : n.val = c.val + 1) (hm : m.val = n.val + 1) {α : Type} (a : α) :
    Mid d L a2 a3 a4 a5 a6 tA tB x0 x1 w0 w1 g0 g1 s15 s16 s17 s18 s19 s20 r0 r1 fT fA fB q q' qA qB A B f1 G1 f2 G2 O W p r c
      ⊢ wp frame (wpE (defs₀ (F := F)) 𝒱₀ (thr d L) none) Set.univ
          (mid L a2 h2 a3 h3 a4 h4 a5 h5 a6 h6 tA htA tB htB x0 hx0 x1 hx1 w0 hw0 w1 hw1 g0 hg0 g1 hg1 s15 s16 s17 s18 s19 s20 r0 r1 p r c n m a)
          fun _ => Mid d L a2 a3 a4 a5 a6 tA tB x0 x1 w0 w1 g0 g1 s15 s16 s17 s18 s19 s20 r0 r1 fT fA fB q q' qA qB A B f1 G1 f2 G2 O W c n m := by
  unfold Mid mid
  iintro ⟨HE, HK, HC, HI, HSW0, HSG0, HSW1, HR, Hd1, Hu1, Hd2, Hu2⟩
  ihave Hu2 := (own_take d L a6 f2 r.val 16 (by omega)) $$ Hu2
  icases Hu2 with ⟨Ho2, Hu2⟩
  iapply (send_ready d L a2 a6 fT A B f2 G2 hG2 s20 g1 r) $$ [HR Ho2]
  · isplitl [HR]; · iexact HR
    iexact Ho2
  iintro HSG1
  ihave Hu1 := (own_take d L a5 f1 c.val 16 (by omega)) $$ Hu1
  icases Hu1 with ⟨Ho1, Hu1⟩
  iapply (wp_half d L a2 h2 a3 h3 a4 h4 a5 h5 a6 h6 tA htA tB htB x0 hx0 x1 hx1 w0 hw0 w1 hw1 g0 hg0 g1 hg1 s15 s16 s17 s18 s19 s20 r0 r1 fT A B f1 G1 G2 O W
    hO hG1 s15 s16 s17 s19 q q' p c n) $$ [HE HC HI HSW0 HSG0 Ho1]
  · isplitl [HE]; · iexact HE
    isplitl [HC]; · iexact HC
    isplitl [HI]; · iexact HI
    isplitl [HSW0]; · iexact HSW0
    isplitl [HSG0]; · iexact HSG0
    iexact Ho1
  iintro ⟨HE, HI, HC, Hp1, Hp2, HSW0, HR⟩
  ihave Hd1 := (own_put d L a5 G1 p.val) $$ [Hd1 Hp1]
  · isplitl [Hd1]; · iexact Hd1
    iexact Hp1
  ihave Hd2 := (own_put d L a6 G2 p.val) $$ [Hd2 Hp2]
  · isplitl [Hd2]; · iexact Hd2
    iexact Hp2
  rw [← hc]
  ihave Hu2 := (own_take d L a6 f2 c.val 16 (by omega)) $$ Hu2
  icases Hu2 with ⟨Ho2, Hu2⟩
  iapply (send_ready d L a2 a6 fT A B f2 G2 hG2 s19 g0 c) $$ [HR Ho2]
  · isplitl [HR]; · iexact HR
    iexact Ho2
  iintro HSG0
  rw [← hn]
  ihave Hu1 := (own_take d L a5 f1 n.val 16 (by omega)) $$ Hu1
  icases Hu1 with ⟨Ho1, Hu1⟩
  iapply (wp_half d L a2 h2 a3 h3 a4 h4 a5 h5 a6 h6 tA htA tB htB x1 hx1 x0 hx0 w1 hw1 w0 hw0 g1 hg1 g0 hg0 s15 s16 s17 s18 s19 s20 r0 r1 fT A B f1 G1 G2 O W
    hO hG1 s16 s15 s18 s20 q' q r n m) $$ [HE HC HI HSW1 HSG1 Ho1]
  · isplitl [HE]; · iexact HE
    isplitl [HC]; · iexact HC
    isplitl [HI]; · iexact HI
    isplitl [HSW1]; · iexact HSW1
    isplitl [HSG1]; · iexact HSG1
    iexact Ho1
  iintro ⟨HE, HI, HC, Hp1, Hp2, HSW1, HR⟩
  rw [← hr]
  ihave Hd1 := (own_put d L a5 G1 r.val) $$ [Hd1 Hp1]
  · isplitl [Hd1]; · iexact Hd1
    iexact Hp1
  ihave Hd2 := (own_put d L a6 G2 r.val) $$ [Hd2 Hp2]
  · isplitl [Hd2]; · iexact Hd2
    iexact Hp2
  rw [← hc, ← hm]
  rw [Prog.pure_eq_ret, wp_ret]
  imodintro
  isplitl [HE]; · iexact HE
  isplitl [HK]; · iexact HK
  isplitl [HC]; · iexact HC
  isplitl [HI]; · iexact HI
  isplitl [HSW0]; · iexact HSW0
  isplitl [HSG0]; · iexact HSG0
  isplitl [HSW1]; · iexact HSW1
  isplitl [HR]; · iexact HR
  isplitl [Hd1]; · iexact Hd1
  isplitl [Hu1]; · iexact Hu1
  isplitl [Hd2]; · iexact Hd2
  iexact Hu2

/-! The program's parts two to seven are these steps, two chunks further each. -/

theorem part2_eq (v c : BitVec 32) : k0_part2 (F := F) L a2 h2 a3 h3 a4 h4 a5 h5 a6 h6 tA htA tB htB x0 hx0 x1 hx1 w0 hw0 w1 hw1 g0 hg0 g1 hg1 s15 s16 s17 s18 s19 s20 r0 r1 v c
    = mid L a2 h2 a3 h3 a4 h4 a5 h5 a6 h6 tA htA tB htB x0 hx0 x1 hx1 w0 hw0 w1 hw1 g0 hg0 g1 hg1 s15 s16 s17 s18 s19 s20 r0 r1 0 1 2 3 4 49152#32 := by
  rw [k0_part2_eq_skeleton]; rfl

theorem part3_eq (v c : BitVec 32) : k0_part3 (F := F) L a2 h2 a3 h3 a4 h4 a5 h5 a6 h6 tA htA tB htB x0 hx0 x1 hx1 w0 hw0 w1 hw1 g0 hg0 g1 hg1 s15 s16 s17 s18 s19 s20 r0 r1 v c
    = mid L a2 h2 a3 h3 a4 h4 a5 h5 a6 h6 tA htA tB htB x0 hx0 x1 hx1 w0 hw0 w1 hw1 g0 hg0 g1 hg1 s15 s16 s17 s18 s19 s20 r0 r1 2 3 4 5 6 81920#32 := by
  rw [k0_part3_eq_skeleton]; rfl

theorem part4_eq (v c : BitVec 32) : k0_part4 (F := F) L a2 h2 a3 h3 a4 h4 a5 h5 a6 h6 tA htA tB htB x0 hx0 x1 hx1 w0 hw0 w1 hw1 g0 hg0 g1 hg1 s15 s16 s17 s18 s19 s20 r0 r1 v c
    = mid L a2 h2 a3 h3 a4 h4 a5 h5 a6 h6 tA htA tB htB x0 hx0 x1 hx1 w0 hw0 w1 hw1 g0 hg0 g1 hg1 s15 s16 s17 s18 s19 s20 r0 r1 4 5 6 7 8 114688#32 := by
  rw [k0_part4_eq_skeleton]; rfl

theorem part5_eq (v c : BitVec 32) : k0_part5 (F := F) L a2 h2 a3 h3 a4 h4 a5 h5 a6 h6 tA htA tB htB x0 hx0 x1 hx1 w0 hw0 w1 hw1 g0 hg0 g1 hg1 s15 s16 s17 s18 s19 s20 r0 r1 v c
    = mid L a2 h2 a3 h3 a4 h4 a5 h5 a6 h6 tA htA tB htB x0 hx0 x1 hx1 w0 hw0 w1 hw1 g0 hg0 g1 hg1 s15 s16 s17 s18 s19 s20 r0 r1 6 7 8 9 10 147456#32 := by
  rw [k0_part5_eq_skeleton]; rfl

theorem part6_eq (v c : BitVec 32) : k0_part6 (F := F) L a2 h2 a3 h3 a4 h4 a5 h5 a6 h6 tA htA tB htB x0 hx0 x1 hx1 w0 hw0 w1 hw1 g0 hg0 g1 hg1 s15 s16 s17 s18 s19 s20 r0 r1 v c
    = mid L a2 h2 a3 h3 a4 h4 a5 h5 a6 h6 tA htA tB htB x0 hx0 x1 hx1 w0 hw0 w1 hw1 g0 hg0 g1 hg1 s15 s16 s17 s18 s19 s20 r0 r1 8 9 10 11 12 180224#32 := by
  rw [k0_part6_eq_skeleton]; rfl

theorem part7_eq (v c : BitVec 32) : k0_part7 (F := F) L a2 h2 a3 h3 a4 h4 a5 h5 a6 h6 tA htA tB htB x0 hx0 x1 hx1 w0 hw0 w1 hw1 g0 hg0 g1 hg1 s15 s16 s17 s18 s19 s20 r0 r1 v c
    = mid L a2 h2 a3 h3 a4 h4 a5 h5 a6 h6 tA htA tB htB x0 hx0 x1 hx1 w0 hw0 w1 hw1 g0 hg0 g1 hg1 s15 s16 s17 s18 s19 s20 r0 r1 10 11 12 13 14 212992#32 := by
  rw [k0_part7_eq_skeleton]; rfl

/-! ## The beginning -/

/-- What the tile starts from: its memory at any contents, every semaphore at zero, its shares of the times and of
    the tables, its part of both results. -/
def Start : sProp 𝕄 :=
  iprop(levAts (K (F := F)).L (K (F := F)).lev ∗ (∃ v, Holds d L tA v) ∗ (∃ v, Holds d L tB v) ∗ Owe d L O W ∗ Keep d L a3 a4 r0 r1 fA fB qA qB
    ∗ Idle d L a2 fT s15 x0 q ∗ Idle d L a2 fT s16 x1 q'
    ∗ (∃ v, Holds d L w0 v) ∗ (∃ v, Holds d L w1 v) ∗ (∃ v, Holds d L g0 v) ∗ (∃ v, Holds d L g1 v)
    ∗ semVal (thr d L, .dma s17.sem) 0 ∗ semVal (thr d L, .dma s18.sem) 0 ∗ semVal (thr d L, .dma s19.sem) 0 ∗ semVal (thr d L, .dma s20.sem) 0
    ∗ Own d L a5 f1 0 16 ∗ Own d L a6 f2 0 16)

/-- The first part: both tables are fetched, then the first two chunks computed. -/
theorem wp_part1 (hO : ∀ g, O g none = 0)
    (hG1 : a5.view.read (Elt F) G1 = fun i => gw (a3.view.read (Elt F) fA) (a4.view.read (Elt F) fB) (a2.view.read (Elt F) fT i))
    (hG2 : a6.view.read (Elt F) G2 = fun i => gd (a3.view.read (Elt F) fA) (a4.view.read (Elt F) fB) (a2.view.read (Elt F) fT i)) :
    Start d L a2 a3 a4 a5 a6 tA tB x0 x1 w0 w1 g0 g1 s15 s16 s17 s18 s19 s20 r0 r1 fT fA fB q q' qA qB f1 f2 O W
      ⊢ wp frame (wpE (defs₀ (F := F)) 𝒱₀ (thr d L) none) Set.univ
          (k0_part1 (F := F) L a2 h2 a3 h3 a4 h4 a5 h5 a6 h6 tA htA tB htB x0 hx0 x1 hx1 w0 hw0 w1 hw1 g0 hg0 g1 hg1 s15 s16 s17 s18 s19 s20 r0 r1)
          fun _ => Mid d L a2 a3 a4 a5 a6 tA tB x0 x1 w0 w1 g0 g1 s15 s16 s17 s18 s19 s20 r0 r1 fT fA fB q q' qA qB (a3.view.read (Elt F) fA) (a4.view.read (Elt F) fB) f1 G1 f2 G2 O W 0 1 2 := by
  rw [k0_part1_eq_skeleton]
  unfold Start Keep
  iintro ⟨#Hlv, HA, HB, HO, ⟨Ha3, Ha4, Hr0, Hr1⟩, HI0, HI1, HW0, HW1, HG0, HG1, H17, H18, H19, H20, Hu1, Hu2⟩
  unfold k0_part1_skel
  iapply (start_fetch d L (by decide) r0 a3 tA qA fA) $$ [HA Ha3 Hr0]
  · isplitl [HA]; · iexact HA
    isplitl [Ha3]; · iexact Ha3
    iexact Hr0
  iintro HF
  iapply (wait_fetch d L r0 a3 tA qA fA a3 hO) $$ [HF HO]
  · isplitr; · iexact Hlv
    isplitl [HF]; · iexact HF
    iexact HO
  iintro ⟨HA, Ha3, Hr0, HO⟩
  iapply (start_fetch d L (by decide) r1 a4 tB qB fB) $$ [HB Ha4 Hr1]
  · isplitl [HB]; · iexact HB
    isplitl [Ha4]; · iexact Ha4
    iexact Hr1
  iintro HF
  iapply (wait_fetch d L r1 a4 tB qB fB a4 hO) $$ [HF HO]
  · isplitr; · iexact Hlv
    isplitl [HF]; · iexact HF
    iexact HO
  iintro ⟨HB, Ha4, Hr1, HO⟩
  ihave HE := (show iprop(levAts (K (F := F)).L (K (F := F)).lev ∗ Holds d L tA (a3.view.read (Elt F) fA) ∗ Holds d L tB (a4.view.read (Elt F) fB) ∗ Owe d L O W)
    ⊢ Env d L tA tB (a3.view.read (Elt F) fA) (a4.view.read (Elt F) fB) O W from .rfl) $$ [HA HB HO]
  · isplitr; · iexact Hlv
    isplitl [HA]; · iexact HA
    isplitl [HB]; · iexact HB
    iexact HO
  iapply (start_in d L a2 x0 fT s15 q 0) $$ HI0
  iintro HC0
  iapply (wait_in d L a2 tA tB x0 fT _ _ O W hO s15 q 0) $$ [HE HC0]
  · isplitl [HE]; · iexact HE
    iexact HC0
  iintro ⟨HE, HX0, HT0, H15⟩
  iapply (start_in d L a2 x1 fT s16 q' 1) $$ HI1
  iintro HC1
  iapply (comp d L a2 h2 a3 h3 a4 h4 a5 h5 a6 h6 tA htA tB htB x0 hx0 x1 hx1 w0 hw0 w1 hw1 g0 hg0 g1 hg1 s15 s16 s17 s18 s19 s20 r0 r1 _ _ O W (tms d L a2 fT 0)) $$ [HE HX0 HW0 HG0]
  · isplitl [HE]; · iexact HE
    isplitl [HX0]; · iexact HX0
    isplitl [HW0]; · iexact HW0
    iexact HG0
  iintro ⟨HE, HX0, HW0, HG0⟩
  ihave Hu1 := (own_take d L a5 f1 0 16 (by omega)) $$ Hu1
  icases Hu1 with ⟨Ho1, Hu1⟩
  iapply (send_first d L a5 f1 G1 s17 w0 0 _ (chunk_read d L a2 fT a5 G1 (gw _ _) hG1 0)) $$ [HW0 Ho1 H17]
  · isplitl [HW0]; · iexact HW0
    isplitl [Ho1]; · iexact Ho1
    iexact H17
  iintro HSW0
  ihave Hu2 := (own_take d L a6 f2 0 16 (by omega)) $$ Hu2
  icases Hu2 with ⟨Ho2, Hu2⟩
  iapply (send_ready d L a2 a6 fT _ _ f2 G2 hG2 s19 g0 0) $$ [HG0 H19 Ho2]
  · unfold Ready
    isplitr [Ho2]
    · isplitl [HG0]; · iexact HG0
      iexact H19
    iexact Ho2
  iintro HSG0
  iapply (wait_in d L a2 tA tB x1 fT _ _ O W hO s16 q' 1) $$ [HE HC1]
  · isplitl [HE]; · iexact HE
    iexact HC1
  iintro ⟨HE, HX1, HT1, H16⟩
  ihave HI0 := (show iprop((∃ v, Holds d L x0 v) ∗ (a2.view.loc (thr d L) ↦[a2.view.set]{q} fT) ∗ semVal (thr d L, .dma s15.sem) 0)
    ⊢ Idle d L a2 fT s15 x0 q from .rfl) $$ [HX0 HT0 H15]
  · isplitl [HX0]; · iexists _; iexact HX0
    isplitl [HT0]; · iexact HT0
    iexact H15
  iapply (start_in d L a2 x0 fT s15 q 2) $$ HI0
  iintro HC2
  iapply (comp d L a2 h2 a3 h3 a4 h4 a5 h5 a6 h6 tA htA tB htB x1 hx1 x0 hx0 w1 hw1 w0 hw0 g1 hg1 g0 hg0 s15 s16 s17 s18 s19 s20 r0 r1 _ _ O W (tms d L a2 fT 1)) $$ [HE HX1 HW1 HG1]
  · isplitl [HE]; · iexact HE
    isplitl [HX1]; · iexact HX1
    isplitl [HW1]; · iexact HW1
    iexact HG1
  iintro ⟨HE, HX1, HW1, HG1⟩
  ihave Hu1 := (own_take d L a5 f1 1 16 (by omega)) $$ Hu1
  icases Hu1 with ⟨Ho1, Hu1⟩
  iapply (send_first d L a5 f1 G1 s18 w1 1 _ (chunk_read d L a2 fT a5 G1 (gw _ _) hG1 1)) $$ [HW1 Ho1 H18]
  · isplitl [HW1]; · iexact HW1
    isplitl [Ho1]; · iexact Ho1
    iexact H18
  iintro HSW1
  rw [Prog.pure_eq_ret, wp_ret]
  imodintro
  unfold Mid Keep
  isplitl [HE]; · iexact HE
  isplitl [Ha3 Ha4 Hr0 Hr1]
  · isplitl [Ha3]; · iexact Ha3
    isplitl [Ha4]; · iexact Ha4
    isplitl [Hr0]; · iexact Hr0
    iexact Hr1
  isplitl [HC2]; · iexact HC2
  isplitl [HX1 HT1 H16]
  · unfold Idle
    isplitl [HX1]; · iexists _; iexact HX1
    isplitl [HT1]; · iexact HT1
    iexact H16
  isplitl [HSW0]; · iexact HSW0
  isplitl [HSG0]; · iexact HSG0
  isplitl [HSW1]; · iexact HSW1
  isplitl [HG1 H20]
  · unfold Ready
    isplitl [HG1]; · iexact HG1
    iexact H20
  isplitr; · iapply (own_nil d L a5 G1)
             iempintro
  isplitl [Hu1]; · iexact Hu1
  isplitr; · iapply (own_nil d L a6 G2)
             iempintro
  iexact Hu2

/-! ## The end -/

/-- What the tile ends with: its memory, every semaphore at zero, its shares, and its part of both results computed. -/
def Finish : sProp 𝕄 :=
  iprop(levAts (K (F := F)).L (K (F := F)).lev ∗ (∃ v, Holds d L tA v) ∗ (∃ v, Holds d L tB v) ∗ Owe d L O W ∗ Keep d L a3 a4 r0 r1 fA fB qA qB
    ∗ Idle d L a2 fT s15 x0 q ∗ Idle d L a2 fT s16 x1 q'
    ∗ (∃ v, Holds d L w0 v) ∗ (∃ v, Holds d L w1 v) ∗ (∃ v, Holds d L g0 v) ∗ (∃ v, Holds d L g1 v)
    ∗ semVal (thr d L, .dma s17.sem) 0 ∗ semVal (thr d L, .dma s18.sem) 0 ∗ semVal (thr d L, .dma s19.sem) 0 ∗ semVal (thr d L, .dma s20.sem) 0
    ∗ Own d L a5 G1 0 16 ∗ Own d L a6 G2 0 16)

/-- The state after the last part: the last two chunks of both results on their way out. -/
def Last : sProp 𝕄 :=
  iprop(Env d L tA tB A B O W ∗ Keep d L a3 a4 r0 r1 fA fB qA qB ∗ Idle d L a2 fT s15 x0 q ∗ Idle d L a2 fT s16 x1 q'
    ∗ Send d L s17 w0 a5 G1 14 ∗ Send d L s19 g0 a6 G2 14 ∗ Send d L s18 w1 a5 G1 15 ∗ Send d L s20 g1 a6 G2 15
    ∗ Own d L a5 G1 0 14 ∗ Own d L a6 G2 0 14)

/-- The program's steps for the last two chunks. -/
def fin : TProg (F := F) L PUnit.{1} := do
  Prog.lift (.enqueueDma g1 (.here (piece L 13 a6)) (.dma s20.sem) hg1.wordExact (View.wordExact_bits rfl) ⟨Or.inl rfl, trivial⟩)
  half L a2 h2 a3 h3 a4 h4 a5 h5 a6 h6 tA htA tB htB x0 hx0 x1 hx1 w0 hw0 w1 hw1 g0 hg0 g1 hg1 s15 s16 s17 s18 s19 s20 r0 r1 s15 s16 s17 s19 12 14 15 fun _ => do
    Prog.lift (.enqueueDma g0 (.here (piece L 14 a6)) (.dma s19.sem) hg0.wordExact (View.wordExact_bits rfl) ⟨Or.inl rfl, trivial⟩)
    Prog.lift (.waitDma2 s16.sem (piece L 15 a2) x1 (View.wordExact_bits rfl) hx1.wordExact)
    Prog.lift (.waitDma2 s18.sem w1 (piece L 13 a5) hw1.wordExact (View.wordExact_bits rfl))
    Prog.lift (.waitDma2 s20.sem g1 (piece L 13 a6) hg1.wordExact (View.wordExact_bits rfl))
    Scf.Loop.for k0_t1_loop k0_t1_ok ⟨⟩ (k0_t1_body (F := F) L a2 h2 a3 h3 a4 h4 a5 h5 a6 h6 tA htA tB htB x1 hx1 x0 hx0 w1 hw1 w0 hw0 g1 hg1 g0 hg0 s15 s16 s17 s18 s19 s20 r0 r1)
    Prog.lift (.enqueueDma w1 (.here (piece L 15 a5)) (.dma s18.sem) hw1.wordExact (View.wordExact_bits rfl) ⟨Or.inl rfl, trivial⟩)
    Prog.lift (.enqueueDma g1 (.here (piece L 15 a6)) (.dma s20.sem) hg1.wordExact (View.wordExact_bits rfl) ⟨Or.inl rfl, trivial⟩)
    pure ⟨⟩

theorem part8_eq (v c : BitVec 32) : k0_part8 (F := F) L a2 h2 a3 h3 a4 h4 a5 h5 a6 h6 tA htA tB htB x0 hx0 x1 hx1 w0 hw0 w1 hw1 g0 hg0 g1 hg1 s15 s16 s17 s18 s19 s20 r0 r1 v c = fin L a2 h2 a3 h3 a4 h4 a5 h5 a6 h6 tA htA tB htB x0 hx0 x1 hx1 w0 hw0 w1 hw1 g0 hg0 g1 hg1 s15 s16 s17 s18 s19 s20 r0 r1 := by
  rw [k0_part8_eq_skeleton]; rfl

/-- The last part: the last two chunks, with no further chunk to send for. -/
theorem wp_part8 (hO : ∀ g, O g none = 0)
    (hG1 : a5.view.read (Elt F) G1 = fun i => gw A B (a2.view.read (Elt F) fT i))
    (hG2 : a6.view.read (Elt F) G2 = fun i => gd A B (a2.view.read (Elt F) fT i)) (v c : BitVec 32) :
    Mid d L a2 a3 a4 a5 a6 tA tB x0 x1 w0 w1 g0 g1 s15 s16 s17 s18 s19 s20 r0 r1 fT fA fB q q' qA qB A B f1 G1 f2 G2 O W 12 13 14
      ⊢ wp frame (wpE (defs₀ (F := F)) 𝒱₀ (thr d L) none) Set.univ
          (k0_part8 (F := F) L a2 h2 a3 h3 a4 h4 a5 h5 a6 h6 tA htA tB htB x0 hx0 x1 hx1 w0 hw0 w1 hw1 g0 hg0 g1 hg1 s15 s16 s17 s18 s19 s20 r0 r1 v c)
          fun _ => Last d L a2 a3 a4 a5 a6 tA tB x0 x1 w0 w1 g0 g1 s15 s16 s17 s18 s19 s20 r0 r1 fT fA fB q q' qA qB A B G1 G2 O W := by
  rw [part8_eq]
  unfold Mid fin
  iintro ⟨HE, HK, HC, HI, HSW0, HSG0, HSW1, HR, Hd1, Hu1, Hd2, Hu2⟩
  ihave Hu2 := (show Own d L a6 f2 ((13 : Fin 16).val) 16 ⊢ iprop(Own d L a6 f2 ((13 : Fin 16).val) (((13 : Fin 16).val) + 1) ∗ Own d L a6 f2 ((14 : Fin 16).val) 16) from own_take d L a6 f2 13 16 (by omega)) $$ Hu2
  icases Hu2 with ⟨Ho2, Hu2⟩
  iapply (send_ready d L a2 a6 fT A B f2 G2 hG2 s20 g1 13) $$ [HR Ho2]
  · isplitl [HR]; · iexact HR
    iexact Ho2
  iintro HSG1
  ihave Hu1 := (show Own d L a5 f1 ((14 : Fin 16).val) 16 ⊢ iprop(Own d L a5 f1 ((14 : Fin 16).val) (((14 : Fin 16).val) + 1) ∗ Own d L a5 f1 ((15 : Fin 16).val) 16) from own_take d L a5 f1 14 16 (by omega)) $$ Hu1
  icases Hu1 with ⟨Ho1, Hu1⟩
  iapply (wp_half d L a2 h2 a3 h3 a4 h4 a5 h5 a6 h6 tA htA tB htB x0 hx0 x1 hx1 w0 hw0 w1 hw1 g0 hg0 g1 hg1 s15 s16 s17 s18 s19 s20 r0 r1 fT A B f1 G1 G2 O W
    hO hG1 s15 s16 s17 s19 q q' 12 14 15) $$ [HE HC HI HSW0 HSG0 Ho1]
  · isplitl [HE]; · iexact HE
    isplitl [HC]; · iexact HC
    isplitl [HI]; · iexact HI
    isplitl [HSW0]; · iexact HSW0
    isplitl [HSG0]; · iexact HSG0
    iexact Ho1
  iintro ⟨HE, HI, HC, Hp1, Hp2, HSW0, HR⟩
  ihave Hd1 := (show iprop(Own d L a5 G1 0 ((12 : Fin 16).val) ∗ Own d L a5 G1 ((12 : Fin 16).val) (((12 : Fin 16).val) + 1)) ⊢ Own d L a5 G1 0 ((13 : Fin 16).val) from own_put d L a5 G1 12) $$ [Hd1 Hp1]
  · isplitl [Hd1]; · iexact Hd1
    iexact Hp1
  ihave Hd2 := (show iprop(Own d L a6 G2 0 ((12 : Fin 16).val) ∗ Own d L a6 G2 ((12 : Fin 16).val) (((12 : Fin 16).val) + 1)) ⊢ Own d L a6 G2 0 ((13 : Fin 16).val) from own_put d L a6 G2 12) $$ [Hd2 Hp2]
  · isplitl [Hd2]; · iexact Hd2
    iexact Hp2
  ihave Hu2 := (show Own d L a6 f2 ((14 : Fin 16).val) 16 ⊢ iprop(Own d L a6 f2 ((14 : Fin 16).val) (((14 : Fin 16).val) + 1) ∗ Own d L a6 f2 ((15 : Fin 16).val) 16) from own_take d L a6 f2 14 16 (by omega)) $$ Hu2
  icases Hu2 with ⟨Ho2, Hu2⟩
  iapply (send_ready d L a2 a6 fT A B f2 G2 hG2 s19 g0 14) $$ [HR Ho2]
  · isplitl [HR]; · iexact HR
    iexact Ho2
  iintro HSG0
  iapply (wait_in d L a2 tA tB x1 fT A B O W hO s16 q' 15) $$ [HE HC]
  · isplitl [HE]; · iexact HE
    iexact HC
  iintro ⟨HE, HX1, HT1, H16⟩
  iapply (wait_out d L tA tB w1 A B O W hO s18 a5 G1 13) $$ [HE HSW1]
  · isplitl [HE]; · iexact HE
    iexact HSW1
  iintro ⟨HE, Hp1, HW1, H18⟩
  iapply (wait_out d L tA tB g1 A B O W hO s20 a6 G2 13) $$ [HE HSG1]
  · isplitl [HE]; · iexact HE
    iexact HSG1
  iintro ⟨HE, Hp2, HG1, H20⟩
  ihave Hd1 := (show iprop(Own d L a5 G1 0 ((13 : Fin 16).val) ∗ Own d L a5 G1 ((13 : Fin 16).val) (((13 : Fin 16).val) + 1)) ⊢ Own d L a5 G1 0 14 from own_put d L a5 G1 13) $$ [Hd1 Hp1]
  · isplitl [Hd1]; · iexact Hd1
    iexact Hp1
  ihave Hd2 := (show iprop(Own d L a6 G2 0 ((13 : Fin 16).val) ∗ Own d L a6 G2 ((13 : Fin 16).val) (((13 : Fin 16).val) + 1)) ⊢ Own d L a6 G2 0 14 from own_put d L a6 G2 13) $$ [Hd2 Hp2]
  · isplitl [Hd2]; · iexact Hd2
    iexact Hp2
  iapply (comp d L a2 h2 a3 h3 a4 h4 a5 h5 a6 h6 tA htA tB htB x1 hx1 x0 hx0 w1 hw1 w0 hw0 g1 hg1 g0 hg0 s15 s16 s17 s18 s19 s20 r0 r1 A B O W (tms d L a2 fT 15)) $$ [HE HX1 HW1 HG1]
  · isplitl [HE]; · iexact HE
    isplitl [HX1]; · iexact HX1
    isplitl [HW1]; · iexact HW1
    iexact HG1
  iintro ⟨HE, HX1, HW1, HG1⟩
  iapply (send_first d L a5 f1 G1 s18 w1 15 _ (chunk_read d L a2 fT a5 G1 (gw A B) hG1 15)) $$ [HW1 Hu1 H18]
  · isplitl [HW1]; · iexact HW1
    isplitl [Hu1]; · iexact Hu1
    iexact H18
  iintro HSW1
  iapply (send_ready d L a2 a6 fT A B f2 G2 hG2 s20 g1 15) $$ [HG1 H20 Hu2]
  · unfold Ready
    isplitr [Hu2]
    · isplitl [HG1]; · iexact HG1
      iexact H20
    iexact Hu2
  iintro HSG1
  rw [Prog.pure_eq_ret, wp_ret]
  imodintro
  unfold Last
  isplitl [HE]; · iexact HE
  isplitl [HK]; · iexact HK
  isplitl [HI]; · iexact HI
  isplitl [HX1 HT1 H16]
  · unfold Idle
    isplitl [HX1]; · iexists _; iexact HX1
    isplitl [HT1]; · iexact HT1
    iexact H16
  isplitl [HSW0]; · iexact HSW0
  isplitl [HSG0]; · iexact HSG0
  isplitl [HSW1]; · iexact HSW1
  isplitl [HSG1]; · iexact HSG1
  isplitl [Hd1]; · iexact Hd1
  iexact Hd2

/-- A program that leaves the state `P`, and one that runs from it. -/
theorem wp_then {α β : Type} (p : Prog (TpuEff nD τ sig (Elt F) Λ₀ (thr d L).2) α) (kk : α → Prog (TpuEff nD τ sig (Elt F) Λ₀ (thr d L).2) β)
    {I P : sProp 𝕄} {Q : β → sProp 𝕄} (hp : I ⊢ wp frame (wpE (defs₀ (F := F)) 𝒱₀ (thr d L) none) Set.univ p fun _ => P)
    (hk : ∀ a, P ⊢ wp frame (wpE (defs₀ (F := F)) 𝒱₀ (thr d L) none) Set.univ (kk a) Q) :
    I ⊢ wp frame (wpE (defs₀ (F := F)) 𝒱₀ (thr d L) none) Set.univ (p >>= kk) Q := by
  rw [wp_bind]
  exact hp.trans (wp_mono _ _ _ hk)

/-- The whole task of a tile. -/
theorem wp_task (hO : ∀ g, O g none = 0)
    (hG1 : a5.view.read (Elt F) G1 = fun i => gw (a3.view.read (Elt F) fA) (a4.view.read (Elt F) fB) (a2.view.read (Elt F) fT i))
    (hG2 : a6.view.read (Elt F) G2 = fun i => gd (a3.view.read (Elt F) fA) (a4.view.read (Elt F) fB) (a2.view.read (Elt F) fT i)) :
    Start d L a2 a3 a4 a5 a6 tA tB x0 x1 w0 w1 g0 g1 s15 s16 s17 s18 s19 s20 r0 r1 fT fA fB q q' qA qB f1 f2 O W
      ⊢ wp frame (wpE (defs₀ (F := F)) 𝒱₀ (thr d L) none) Set.univ
          (cc0_body (F := F) L a2 h2 a3 h3 a4 h4 a5 h5 a6 h6 tA htA tB htB x0 hx0 x1 hx1 w0 hw0 w1 hw1 g0 hg0 g1 hg1 s15 s16 s17 s18 s19 s20 r0 r1)
          fun _ => Finish d L a2 a3 a4 a5 a6 tA tB x0 x1 w0 w1 g0 g1 s15 s16 s17 s18 s19 s20 r0 r1 fT fA fB q q' qA qB G1 G2 O W := by
  rw [cc0_body_eq_skeleton]
  unfold cc0_body_skel
  refine wp_then d L _ _ (wp_part1 d L a2 h2 a3 h3 a4 h4 a5 h5 a6 h6 tA htA tB htB x0 hx0 x1 hx1 w0 hw0 w1 hw1 g0 hg0 g1 hg1 s15 s16 s17 s18 s19 s20 r0 r1 fT fA fB q q' qA qB f1 G1 f2 G2 O W hO hG1 hG2) fun r => ?_
  obtain ⟨v, c⟩ := r
  dsimp only
  rw [part2_eq]
  refine wp_then d L _ _ (wp_mid d L a2 h2 a3 h3 a4 h4 a5 h5 a6 h6 tA htA tB htB x0 hx0 x1 hx1 w0 hw0 w1 hw1 g0 hg0 g1 hg1 s15 s16 s17 s18 s19 s20 r0 r1 fT fA fB q q' qA qB _ _ f1 G1 f2 G2 O W hO hG1 hG2 0 1 2 3 4 rfl rfl rfl rfl _) fun c => ?_
  rw [part3_eq]
  refine wp_then d L _ _ (wp_mid d L a2 h2 a3 h3 a4 h4 a5 h5 a6 h6 tA htA tB htB x0 hx0 x1 hx1 w0 hw0 w1 hw1 g0 hg0 g1 hg1 s15 s16 s17 s18 s19 s20 r0 r1 fT fA fB q q' qA qB _ _ f1 G1 f2 G2 O W hO hG1 hG2 2 3 4 5 6 rfl rfl rfl rfl _) fun c => ?_
  rw [part4_eq]
  refine wp_then d L _ _ (wp_mid d L a2 h2 a3 h3 a4 h4 a5 h5 a6 h6 tA htA tB htB x0 hx0 x1 hx1 w0 hw0 w1 hw1 g0 hg0 g1 hg1 s15 s16 s17 s18 s19 s20 r0 r1 fT fA fB q q' qA qB _ _ f1 G1 f2 G2 O W hO hG1 hG2 4 5 6 7 8 rfl rfl rfl rfl _) fun c => ?_
  rw [part5_eq]
  refine wp_then d L _ _ (wp_mid d L a2 h2 a3 h3 a4 h4 a5 h5 a6 h6 tA htA tB htB x0 hx0 x1 hx1 w0 hw0 w1 hw1 g0 hg0 g1 hg1 s15 s16 s17 s18 s19 s20 r0 r1 fT fA fB q q' qA qB _ _ f1 G1 f2 G2 O W hO hG1 hG2 6 7 8 9 10 rfl rfl rfl rfl _) fun c => ?_
  rw [part6_eq]
  refine wp_then d L _ _ (wp_mid d L a2 h2 a3 h3 a4 h4 a5 h5 a6 h6 tA htA tB htB x0 hx0 x1 hx1 w0 hw0 w1 hw1 g0 hg0 g1 hg1 s15 s16 s17 s18 s19 s20 r0 r1 fT fA fB q q' qA qB _ _ f1 G1 f2 G2 O W hO hG1 hG2 8 9 10 11 12 rfl rfl rfl rfl _) fun c => ?_
  rw [part7_eq]
  refine wp_then d L _ _ (wp_mid d L a2 h2 a3 h3 a4 h4 a5 h5 a6 h6 tA htA tB htB x0 hx0 x1 hx1 w0 hw0 w1 hw1 g0 hg0 g1 hg1 s15 s16 s17 s18 s19 s20 r0 r1 fT fA fB q q' qA qB _ _ f1 G1 f2 G2 O W hO hG1 hG2 10 11 12 13 14 rfl rfl rfl rfl _) fun c => ?_
  refine wp_then d L _ _ (wp_part8 d L a2 h2 a3 h3 a4 h4 a5 h5 a6 h6 tA htA tB htB x0 hx0 x1 hx1 w0 hw0 w1 hw1 g0 hg0 g1 hg1 s15 s16 s17 s18 s19 s20 r0 r1 fT fA fB q q' qA qB _ _ f1 G1 f2 G2 O W hO hG1 hG2 v c) fun _ => ?_
  unfold Last
  iintro ⟨HE, HK, HI0, HI1, HSW0, HSG0, HSW1, HSG1, Hd1, Hd2⟩
  iapply (wait_out d L tA tB w0 _ _ O W hO s17 a5 G1 14) $$ [HE HSW0]
  · isplitl [HE]; · iexact HE
    iexact HSW0
  iintro ⟨HE, Hp1, HW0, H17⟩
  iapply (wait_out d L tA tB g0 _ _ O W hO s19 a6 G2 14) $$ [HE HSG0]
  · isplitl [HE]; · iexact HE
    iexact HSG0
  iintro ⟨HE, Hp2, HG0, H19⟩
  ihave Hd1 := (own_put d L a5 G1 14) $$ [Hd1 Hp1]
  · isplitl [Hd1]; · iexact Hd1
    iexact Hp1
  ihave Hd2 := (own_put d L a6 G2 14) $$ [Hd2 Hp2]
  · isplitl [Hd2]; · iexact Hd2
    iexact Hp2
  iapply (wait_out d L tA tB w1 _ _ O W hO s18 a5 G1 15) $$ [HE HSW1]
  · isplitl [HE]; · iexact HE
    iexact HSW1
  iintro ⟨HE, Hp1, HW1, H18⟩
  iapply (wait_out d L tA tB g1 _ _ O W hO s20 a6 G2 15) $$ [HE HSG1]
  · isplitl [HE]; · iexact HE
    iexact HSG1
  iintro ⟨HE, Hp2, HG1, H20⟩
  ihave Hd1 := (own_put d L a5 G1 15) $$ [Hd1 Hp1]
  · isplitl [Hd1]; · iexact Hd1
    iexact Hp1
  ihave Hd2 := (own_put d L a6 G2 15) $$ [Hd2 Hp2]
  · isplitl [Hd2]; · iexact Hd2
    iexact Hp2
  rw [Prog.pure_eq_ret, wp_ret]
  imodintro
  unfold Finish Env
  icases HE with ⟨Hlv, HA, HB, HO⟩
  isplitl [Hlv]; · iexact Hlv
  isplitl [HA]; · iexists _; iexact HA
  isplitl [HB]; · iexists _; iexact HB
  isplitl [HO]; · iexact HO
  isplitl [HK]; · iexact HK
  isplitl [HI0]; · iexact HI0
  isplitl [HI1]; · iexact HI1
  isplitl [HW0]; · iexact HW0
  isplitl [HW1]; · iexact HW1
  isplitl [HG0]; · iexact HG0
  isplitl [HG1]; · iexact HG1
  isplitl [H17]; · iexact H17
  isplitl [H18]; · iexact H18
  isplitl [H19]; · iexact H19
  isplitl [H20]; · iexact H20
  isplitl [Hd1]; · iexact Hd1
  iexact Hd2

end Parts

end Cert.Proof.Sched

end
-- ==== Proof.Launch.lean ====
/- The launch: what the call's handshakes carry, how the arrays are dealt among the two cores and their sixteen
   subcores, and each subcore's obligation from its task. The arrays' contents at the call are a parameter. -/
module

public import proofs.«01_k».proof.Proof.Body

@[expose] public section

noncomputable section

namespace Cert.Proof.Sched

open Cert.KernelIdeal Cert.KernelIdeal.Gen

open Idealize.ShloMosaic
open Idealize.ShloMosaic.SparseCore (S V T)
open Idealize.ShloMosaic.SparseCore.Cfg (HIx Pay mem_ownCells ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ

/-! ## The arrays of the call -/

abbrev tRef : DevRef τ sig := Proc.devRef .tc (main_arg0 : Ref sig .tc)
abbrev aRef : DevRef τ sig := Proc.devRef .tc (main_v35 : Ref sig .tc)
abbrev bRef : DevRef τ sig := Proc.devRef .tc (main_v37 : Ref sig .tc)
abbrev uRef : DevRef τ sig := Proc.devRef .tc (main_v38_0 : Ref sig .tc)
abbrev wRef : DevRef τ sig := Proc.devRef .tc (main_v38_1 : Ref sig .tc)

abbrev tLoc (d : Dev nD) : Loc nD τ sig := (d, tRef)
abbrev aLoc (d : Dev nD) : Loc nD τ sig := (d, aRef)
abbrev bLoc (d : Dev nD) : Loc nD τ sig := (d, bRef)
abbrev uLoc (d : Dev nD) : Loc nD τ sig := (d, uRef)
abbrev wLoc (d : Dev nD) : Loc nD τ sig := (d, wRef)

theorem nCore_zero : (K (F := F)).nCore 0 = 2 := rfl
theorem nSub_zero : (K (F := F)).nSub 0 = 16 := rfl

/-- The grid point of a core and a subcore. -/
def coordsV (c : Fin (grid0.bound 0)) (s : Fin (grid0.bound 1)) : grid0.Coords :=
  fun | 0 => c | 1 => s | ⟨_ + 2, h⟩ => absurd h (Nat.not_lt.2 (Nat.le_add_left _ _))

/-- A core's number and a subcore's as a grid point. -/
abbrev pt (c : Fin 2) (i : Fin 16) : grid0.Coords := coordsV c i

/-! ## How they are dealt: a share of each operand, a range of each result -/

/-- Core `c`'s share of an operand. -/
def qC (c : Fin 2) : PosShare TreeShare := dealOf fullShare Finset.univ c
/-- Subcore `i`'s share of its core's. -/
def qT (c : Fin 2) (i : Fin 16) : PosShare TreeShare := dealOf (qC c) Finset.univ i
/-- The elements of a result that a grid point computes. -/
def rT (c : Fin 2) (i : Fin 16) : Finset S8388608.Idx := rng (32 * i.val + 16 * c.val) (32 * i.val + 16 * c.val + 16)
/-- Those of a core. -/
def rC (c : Fin 2) : Finset S8388608.Idx := Finset.univ.biUnion (rT c)

theorem rT_disjoint {c c' : Fin 2} {i i' : Fin 16} (h : c ≠ c' ∨ i ≠ i') : Disjoint (rT c i) (rT c' i') := by
  rw [Finset.disjoint_left]
  intro x hx hy
  unfold rT at hx hy
  rw [mem_rng] at hx hy
  have h1 : ¬ (c.val = c'.val ∧ i.val = i'.val) := fun e => h.elim (fun k => k (Fin.ext e.1)) (fun k => k (Fin.ext e.2))
  have := c.isLt; have := c'.isLt
  omega

theorem rC_disjoint {c c' : Fin 2} (h : c ≠ c') : Disjoint (rC c) (rC c') := by
  unfold rC
  rw [Finset.disjoint_biUnion_left]
  intro i _
  rw [Finset.disjoint_biUnion_right]
  intro i' _
  exact rT_disjoint (.inl h)

theorem rC_cover : (Finset.univ : Finset (Fin 2)).biUnion rC = Finset.univ := by
  ext x
  simp only [Finset.mem_biUnion, Finset.mem_univ, true_and, iff_true, rC, rT, mem_rng]
  have hx : (x 0).val < 8388608 := (x 0).isLt
  refine ⟨⟨(x 0).val / 262144 % 2, by omega⟩, ⟨(x 0).val / 524288, by omega⟩, ?_, ?_⟩ <;> dsimp only <;> omega

/-! ## What the handshakes carry -/

variable (N : Dev nD → Valuation τ sig (Elt F))

/-- A grid point's part of the arrays, the results' at the contents `f` and `g`. -/
def tileP (d : Dev nD) (f : Buf (Elt F) (uLoc d)) (g : Buf (Elt F) (wLoc d)) (c : Fin 2) (i : Fin 16) : sProp 𝕄 :=
  iprop((tLoc d ↦{qT c i} N d tRef) ∗ (aLoc d ↦{qT c i} N d aRef) ∗ (bLoc d ↦{qT c i} N d bRef)
    ∗ (uLoc d ↦[rT c i]{fullShare} f) ∗ (wLoc d ↦[rT c i]{fullShare} g))

/-- A core's part. -/
def coreP (d : Dev nD) (f : Buf (Elt F) (uLoc d)) (g : Buf (Elt F) (wLoc d)) (c : Fin 2) : sProp 𝕄 :=
  iprop((tLoc d ↦{qC c} N d tRef) ∗ (aLoc d ↦{qC c} N d aRef) ∗ (bLoc d ↦{qC c} N d bRef)
    ∗ (uLoc d ↦[rC c]{fullShare} f) ∗ (wLoc d ↦[rC c]{fullShare} g))

/-- The arrays whole. -/
def wholeP (d : Dev nD) (f : Buf (Elt F) (uLoc d)) (g : Buf (Elt F) (wLoc d)) : sProp 𝕄 :=
  iprop((tLoc d ↦{fullShare} N d tRef) ∗ (aLoc d ↦{fullShare} N d aRef) ∗ (bLoc d ↦{fullShare} N d bRef)
    ∗ (uLoc d ↦{fullShare} f) ∗ (wLoc d ↦{fullShare} g))

instance (d : Dev nD) (f : Buf (Elt F) (uLoc d)) (g : Buf (Elt F) (wLoc d)) (c : Fin 2) (i : Fin 16) :
    BI.Storable (upEmb : UEmb _ 𝕄) (tileP N d f g c i) := by unfold tileP; infer_instance
instance (d : Dev nD) (f : Buf (Elt F) (uLoc d)) (g : Buf (Elt F) (wLoc d)) (c : Fin 2) :
    BI.Storable (upEmb : UEmb _ 𝕄) (coreP N d f g c) := by unfold coreP; infer_instance

/-- A core's part is its subcores' parts together. -/
theorem core_eq (d : Dev nD) (f : Buf (Elt F) (uLoc d)) (g : Buf (Elt F) (wLoc d)) (c : Fin 2) :
    coreP N d f g c = bigSep Finset.univ fun i => tileP N d f g c i := by
  unfold coreP tileP
  have hn : (Finset.univ : Finset (Fin 16)).Nonempty := ⟨0, Finset.mem_univ _⟩
  have hd : ∀ i ∈ (Finset.univ : Finset (Fin 16)), ∀ i' ∈ (Finset.univ : Finset (Fin 16)), i ≠ i' → Disjoint (rT c i) (rT c i') :=
    fun i _ i' _ h => rT_disjoint (.inr h)
  rw [bigSep_sep', bigSep_sep', bigSep_sep', bigSep_sep']
  unfold qT rC
  rw [← pointsTo_deal _ hn, ← pointsTo_deal _ hn, ← pointsTo_deal _ hn,
    pointsTo_biUnion Finset.univ (ℓ := uLoc d) (rT c) hd, pointsTo_biUnion Finset.univ (ℓ := wLoc d) (rT c) hd]

/-- The arrays whole are the two cores' parts together. -/
theorem whole_eq (d : Dev nD) (f : Buf (Elt F) (uLoc d)) (g : Buf (Elt F) (wLoc d)) :
    wholeP N d f g = bigSep Finset.univ fun c => coreP N d f g c := by
  unfold wholeP coreP
  have hn : (Finset.univ : Finset (Fin 2)).Nonempty := ⟨0, Finset.mem_univ _⟩
  have hd : ∀ i ∈ (Finset.univ : Finset (Fin 2)), ∀ i' ∈ (Finset.univ : Finset (Fin 2)), i ≠ i' → Disjoint (rC i) (rC i') :=
    fun i _ i' _ h => rC_disjoint h
  rw [bigSep_sep', bigSep_sep', bigSep_sep', bigSep_sep']
  unfold qC
  rw [← pointsTo_deal _ hn, ← pointsTo_deal _ hn, ← pointsTo_deal _ hn,
    ← pointsTo_biUnion Finset.univ (ℓ := uLoc d) rC hd, ← pointsTo_biUnion Finset.univ (ℓ := wLoc d) rC hd, rC_cover]

variable [FloatOps F]

/-- The first result the call leaves: the kernel's function of each time, from the tables. -/
def G1 (d : Dev nD) : Buf (Elt F) (uLoc d) := fun i : S8388608.Idx => gw (N d aRef) (N d bRef) (N d tRef i)
/-- The second. -/
def G2 (d : Dev nD) : Buf (Elt F) (wLoc d) := fun i : S8388608.Idx => gd (N d aRef) (N d bRef) (N d tRef i)

/-- The call takes the arrays and brings them back, the results at the kernel's functions of the times. -/
def P : (K (F := F)).Pay (nD := nD) (Val := Elt F) (Name := ℕ) (U := UU) where
  st := fun q d c => match q with | 0 => coreP N d (N d uRef) (N d wRef) (Fin.cast nCore_zero c)
  dn := fun q d c => match q with | 0 => coreP N d (G1 N d) (G2 N d) (Fin.cast nCore_zero c)
  go := fun q d c i => match q with | 0 => tileP N d (N d uRef) (N d wRef) (Fin.cast nCore_zero c) (Fin.cast nSub_zero i)
  td := fun q d c i => match q with | 0 => tileP N d (G1 N d) (G2 N d) (Fin.cast nCore_zero c) (Fin.cast nSub_zero i)
  x := fun _ _ => iprop(emp)

instance P_storable : (P N).IsStorable where
  st q d c := match q with
    | 0 => (inferInstance : BI.Storable (upEmb : UEmb _ 𝕄) (coreP N d (N d uRef) (N d wRef) (Fin.cast nCore_zero c)))
  dn q d c := match q with
    | 0 => (inferInstance : BI.Storable (upEmb : UEmb _ 𝕄) (coreP N d (G1 N d) (G2 N d) (Fin.cast nCore_zero c)))
  go q d c i := match q with
    | 0 => (inferInstance : BI.Storable (upEmb : UEmb _ 𝕄) (tileP N d (N d uRef) (N d wRef) (Fin.cast nCore_zero c) (Fin.cast nSub_zero i)))
  td q d c i := match q with
    | 0 => (inferInstance : BI.Storable (upEmb : UEmb _ 𝕄) (tileP N d (G1 N d) (G2 N d) (Fin.cast nCore_zero c) (Fin.cast nSub_zero i)))

/-- A core's sequencer deals its part to its subcores and gathers what they bring back. -/
theorem vecSplit : (K (F := F)).VecSplit' (P N) 0 := by
  intro d c
  show coreP N d (N d uRef) (N d wRef) (Fin.cast nCore_zero c) ⊢ |={Set.univ}=> iprop(
      (bigSep Finset.univ fun i : Fin ((K (F := F)).nSub 0) => tileP N d (N d uRef) (N d wRef) (Fin.cast nCore_zero c) (Fin.cast nSub_zero i))
      ∗ ((bigSep Finset.univ fun i : Fin ((K (F := F)).nSub 0) => tileP N d (G1 N d) (G2 N d) (Fin.cast nCore_zero c) (Fin.cast nSub_zero i))
          -∗ coreP N d (G1 N d) (G2 N d) (Fin.cast nCore_zero c)))
  have e (f : Buf (Elt F) (uLoc d)) (g : Buf (Elt F) (wLoc d)) :
      (bigSep Finset.univ fun i : Fin ((K (F := F)).nSub 0) => tileP N d f g (Fin.cast nCore_zero c) (Fin.cast nSub_zero i))
        = coreP N d f g (Fin.cast nCore_zero c) := by
    rw [core_eq]; exact bigSep_congr fun _ _ => congrArg (tileP N d f g _) (Fin.ext rfl)
  rw [e, e]
  iintro H; imodintro
  isplitl [H]; · iexact H
  iintro H; iexact H

/-! ## The subcore's own memory and semaphores -/

section Own

variable (d : Dev nD) (L : grid0.Coords)

/-- The kernel's scratch buffers. -/
def scr : Finset (Ref sig .scVector) :=
  {cc0_scratch0, cc0_scratch1, cc0_scratch2, cc0_scratch3, cc0_scratch4, cc0_scratch5, cc0_scratch6, cc0_scratch7}
/-- The kernel's semaphores. -/
def sms : Finset (SemLoc sig) :=
  {.dma cc0_scratch8.sem, .dma cc0_scratch9.sem, .dma cc0_scratch10.sem, .dma cc0_scratch11.sem, .dma cc0_scratch12.sem,
    .dma cc0_scratch13.sem, .dma cc0_scoped0.sem, .dma cc0_scoped1.sem}

/-- A buffer as the subcore names it. -/
def devEmb : Ref sig .scVector ↪ DevRef τ sig := ⟨(Proc.scVector (cV L) (jV L)).devRef, Proc.devRef_injective _⟩
/-- A semaphore of the subcore as a cell. -/
def cellEmb : SemLoc sig ↪ GSem nD τ sig := ⟨fun s => (thr d L, s), fun _ _ e => (Prod.mk.inj e).2⟩

omit [FloatOps F] in
/-- A buffer owned whole at some contents, as a memref held at some value. -/
theorem holds_whole {s : Shape} (x : Memref sig .scVector .vmem s .f32) (h : x.view.set = Finset.univ) :
    (iprop(∃ f, x.view.loc (thr d L) ↦{fullShare} f) : sProp 𝕄) = iprop(∃ v, Holds d L x v) := by
  have h1 : iprop(∃ f, x.view.loc (thr d L) ↦{fullShare} f) ⊢ (iprop(∃ v, Holds d L x v) : sProp 𝕄) := by
    iintro ⟨%f, H⟩
    iexists _
    unfold Holds
    iexists f
    isplitr
    · ipureintro; rfl
    rw [h]; iexact H
  have h2 : iprop(∃ v, Holds d L x v) ⊢ (iprop(∃ f, x.view.loc (thr d L) ↦{fullShare} f) : sProp 𝕄) := by
    iintro ⟨%v, H⟩
    unfold Holds
    icases H with ⟨%f, -, H⟩
    iexists f
    rw [h]; iexact H
  exact BI.Entails.antisymm h1 h2

omit [FloatOps F] in
/-- The scratch buffers are among the subcore's own. -/
theorem ownBufs_V :
    (ownBufs (thr d L) : sProp 𝕄)
      = iprop(((∃ v, Holds d L (Memref.whole cc0_scratch0) v) ∗ (∃ v, Holds d L (Memref.whole cc0_scratch1) v)
            ∗ (∃ v, Holds d L (Memref.whole cc0_scratch2) v) ∗ (∃ v, Holds d L (Memref.whole cc0_scratch3) v)
            ∗ (∃ v, Holds d L (Memref.whole cc0_scratch4) v) ∗ (∃ v, Holds d L (Memref.whole cc0_scratch5) v)
            ∗ (∃ v, Holds d L (Memref.whole cc0_scratch6) v) ∗ (∃ v, Holds d L (Memref.whole cc0_scratch7) v))
          ∗ bigSep (ownRefs (thr d L).2 \ scr.map (devEmb L)) fun b => iprop(∃ f, ((d, b) : Loc nD τ sig) ↦{fullShare} f)) := by
  have h : scr.map (devEmb L) ⊆ ownRefs (thr d L).2 := by
    intro g hg
    obtain ⟨s, hs, rfl⟩ := Finset.mem_map.mp hg
    refine SparseCore.Cfg.mem_ownRefs_of_owner (p := Proc.scVector (cV L) (jV L)) ?_
    unfold scr at hs
    simp only [Finset.mem_insert, Finset.mem_singleton] at hs
    rcases hs with rfl | rfl | rfl | rfl | rfl | rfl | rfl | rfl <;> rfl
  unfold SparseCore.Cfg.ownBufs
  rw [SparseCore.bigSep_sdiff_split' h, SparseCore.bigSep_map,
    ← holds_whole d L (Memref.whole cc0_scratch0) (View.set_whole _), ← holds_whole d L (Memref.whole cc0_scratch1) (View.set_whole _),
    ← holds_whole d L (Memref.whole cc0_scratch2) (View.set_whole _), ← holds_whole d L (Memref.whole cc0_scratch3) (View.set_whole _),
    ← holds_whole d L (Memref.whole cc0_scratch4) (View.set_whole _), ← holds_whole d L (Memref.whole cc0_scratch5) (View.set_whole _),
    ← holds_whole d L (Memref.whole cc0_scratch6) (View.set_whole _), ← holds_whole d L (Memref.whole cc0_scratch7) (View.set_whole _)]
  unfold scr
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

omit [FloatOps F] in
/-- The kernel's semaphores are among the subcore's own. -/
theorem ownSems0_V :
    (ownSems0 (thr d L) : sProp 𝕄)
      = iprop((semVal (thr d L, .dma cc0_scratch8.sem) 0 ∗ semVal (thr d L, .dma cc0_scratch9.sem) 0 ∗ semVal (thr d L, .dma cc0_scratch10.sem) 0
            ∗ semVal (thr d L, .dma cc0_scratch11.sem) 0 ∗ semVal (thr d L, .dma cc0_scratch12.sem) 0 ∗ semVal (thr d L, .dma cc0_scratch13.sem) 0
            ∗ semVal (thr d L, .dma cc0_scoped0.sem) 0 ∗ semVal (thr d L, .dma cc0_scoped1.sem) 0)
          ∗ bigSep (ownCells (thr d L) \ sms.map (cellEmb d L)) fun g => semVal g 0) := by
  have h : sms.map (cellEmb d L) ⊆ ownCells (thr d L) := by
    intro g hg
    obtain ⟨s, hs, rfl⟩ := Finset.mem_map.mp hg
    refine mem_ownCells.mpr ⟨rfl, ?_⟩
    exact (show ∀ s ∈ sms, (s : SemLoc sig).isScoped .scVector = true by decide) s hs
  unfold SparseCore.Cfg.ownSems0
  rw [SparseCore.bigSep_sdiff_split' h, SparseCore.bigSep_map]
  unfold sms
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

end Own

/-! ## A subcore's obligation -/

/-- A program's run, with something kept aside. -/
theorem wp_aside {α : Type} {t : Thread nD τ} (p : Prog (TpuEff nD τ sig (Elt F) Λ₀ t.2) α) {I J X Y R : sProp 𝕄}
    (key : I ⊢ wp frame (wpE (defs₀ (F := F)) 𝒱₀ t none) Set.univ p fun _ => J) (hX : X ⊢ iprop(I ∗ R)) (hY : iprop(J ∗ R) ⊢ Y) :
    X ⊢ wp frame (wpE (defs₀ (F := F)) 𝒱₀ t none) Set.univ p fun _ => Y := by
  have h : iprop(I ∗ R) ⊢ wp frame (wpE (defs₀ (F := F)) 𝒱₀ t none) Set.univ p fun _ => iprop(J ∗ R) :=
    (sep_mono_left key).trans (wp_frame_r _ _ _)
  exact hX.trans (h.trans (wp_mono frame _ _ fun _ => hY))

set_option maxHeartbeats 1000000 in
/-- The task on a subcore, from its part of the arrays to its part with the results computed. -/
theorem tile_body (d : Dev nD) (c : Fin 2) (i : Fin 16) (O : CellTallies nD τ sig (HIx 1)) (W : Waits sig (HIx 1)) (hO : ∀ g, O g none = 0) :
    iprop(levAts (K (F := F)).L (K (F := F)).lev ∗ emp ∗ tileP N d (N d uRef) (N d wRef) c i
        ∗ scopedBufs (thr d (pt c i)) ∗ scopedSems0 (thr d (pt c i)) ∗ owes (thr d (pt c i)) O W)
      ⊢ wp frame (wpE (defs₀ (F := F)) 𝒱₀ (thr d (pt c i)) none) Set.univ
          (cc0_body (F := F) (pt c i) (Memref.whole main_arg0_scv) (Memref.isWhole_whole _) (Memref.whole main_v35_scv) (Memref.isWhole_whole _)
            (Memref.whole main_v37_scv) (Memref.isWhole_whole _) (Memref.whole main_v38_0_scv) (Memref.isWhole_whole _)
            (Memref.whole main_v38_1_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) (Memref.whole cc0_scratch6) (Memref.isWhole_whole _)
            (Memref.whole cc0_scratch7) (Memref.isWhole_whole _) cc0_scratch8 cc0_scratch9 cc0_scratch10 cc0_scratch11 cc0_scratch12
            cc0_scratch13 cc0_scoped0 cc0_scoped1)
          fun _ => iprop(tileP N d (G1 N d) (G2 N d) c i ∗ scopedBufs (thr d (pt c i)) ∗ scopedSems0 (thr d (pt c i))
            ∗ ∃ W', ⌜∀ p ∈ W', p ∈ W ∨ p.2 = none⌝ ∗ owes (thr d (pt c i)) O W') := by
  rw [(K (F := F)).scopedBufs_V facts d (cV (pt c i)) (jV (pt c i)), SparseCore.Cfg.scopedSems0_V (Val := Elt F) d (cV (pt c i)) (jV (pt c i)),
    ownSems0_V, ownBufs_V]
  have ht := pointsTo_share (ℓ := tLoc d) (I := Finset.univ) (f := N d tRef) (Ix := HIx 1) (Name := ℕ) (U := UU) (Lvl := ℕ)
    (PosShare.mem_left_op_right (qT c i))
  have key := wp_task (F := F) d (pt c i) (Memref.whole main_arg0_scv) (Memref.isWhole_whole _) (Memref.whole main_v35_scv) (Memref.isWhole_whole _)
    (Memref.whole main_v37_scv) (Memref.isWhole_whole _) (Memref.whole main_v38_0_scv) (Memref.isWhole_whole _)
    (Memref.whole main_v38_1_scv) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) (Memref.whole cc0_scratch6) (Memref.isWhole_whole _)
    (Memref.whole cc0_scratch7) (Memref.isWhole_whole _) cc0_scratch8 cc0_scratch9 cc0_scratch10 cc0_scratch11 cc0_scratch12
    cc0_scratch13 cc0_scoped0 cc0_scoped1 (N d tRef) (N d aRef) (N d bRef) (qT c i).left (qT c i).right (qT c i) (qT c i)
    (N d uRef) (G1 N d) (N d wRef) (G2 N d) O W hO rfl rfl
  have hown1 (f : Buf (Elt F) (uLoc d)) : Own d (pt c i) (Memref.whole main_v38_0_scv) f 0 16 = (uLoc d ↦[rT c i]{fullShare} f : sProp 𝕄) := by
    unfold Own
    rw [show (Memref.whole main_v38_0_scv : Arr).view.setOn (rng (nOf (pt c i) + 0) (nOf (pt c i) + 16)) = rT c i from Finset.map_refl]
  have hown2 (f : Buf (Elt F) (wLoc d)) : Own d (pt c i) (Memref.whole main_v38_1_scv) f 0 16 = (wLoc d ↦[rT c i]{fullShare} f : sProp 𝕄) := by
    unfold Own
    rw [show (Memref.whole main_v38_1_scv : Arr).view.setOn (rng (nOf (pt c i) + 0) (nOf (pt c i) + 16)) = rT c i from Finset.map_refl]
  unfold Start Finish Keep Idle at key
  simp only [hown1, hown2, Memref.view_whole, View.set_whole] at key
  unfold tileP
  generalize (bigSep (ownRefs (thr d (pt c i)).2 \ scr.map (devEmb (pt c i))) (fun b => iprop(∃ f, ((d, b) : Loc nD τ sig) ↦{fullShare} f)) : sProp 𝕄) = R1
  generalize (bigSep (ownCells (thr d (pt c i)) \ sms.map (cellEmb d (pt c i))) (fun g => semVal g 0) : sProp 𝕄) = R2
  refine wp_aside _ key (R := iprop(R1 ∗ R2)) ?_ ?_
  · iintro ⟨Hlv, -, ⟨Ht, Ha, Hb, Hu, Hw⟩, ⟨⟨H0, H1, H2, H3, H4, H5, H6, H7⟩, HR1⟩, ⟨⟨S8, S9, S10, S11, S12, S13, Sr0, Sr1⟩, HR2⟩, HO⟩
    ihave Ht := ht.1 $$ Ht
    icases Ht with ⟨Ht0, Ht1⟩
    isplitr [HR1 HR2]
    · isplitl [Hlv]; · iexact Hlv
      isplitl [H0]; · iexact H0
      isplitl [H1]; · iexact H1
      isplitl [HO]
      · unfold Owe
        iexists W; isplitr
        · ipureintro; exact fun p hp => .inl hp
        iexact HO
      isplitl [Ha Hb Sr0 Sr1]
      · isplitl [Ha]; · iexact Ha
        isplitl [Hb]; · iexact Hb
        isplitl [Sr0]; · iexact Sr0
        iexact Sr1
      isplitl [H2 Ht0 S8]
      · isplitl [H2]; · iexact H2
        isplitl [Ht0]; · iexact Ht0
        iexact S8
      isplitl [H3 Ht1 S9]
      · isplitl [H3]; · iexact H3
        isplitl [Ht1]; · iexact Ht1
        iexact S9
      isplitl [H4]; · iexact H4
      isplitl [H5]; · iexact H5
      isplitl [H6]; · iexact H6
      isplitl [H7]; · iexact H7
      isplitl [S10]; · iexact S10
      isplitl [S11]; · iexact S11
      isplitl [S12]; · iexact S12
      isplitl [S13]; · iexact S13
      isplitl [Hu]; · iexact Hu
      iexact Hw
    isplitl [HR1]; · iexact HR1
    iexact HR2
  · iintro ⟨⟨Hlv, H0, H1, HO, ⟨Ha, Hb, Sr0, Sr1⟩, ⟨H2, Ht0, S8⟩, ⟨H3, Ht1, S9⟩, H4, H5, H6, H7, S10, S11, S12, S13, Hu, Hw⟩, HR1, HR2⟩
    ihave Ht := ht.2 $$ [Ht0 Ht1]
    · isplitl [Ht0]; · iexact Ht0
      iexact Ht1
    isplitl [Ht Ha Hb Hu Hw]
    · isplitl [Ht]; · iexact Ht
      isplitl [Ha]; · iexact Ha
      isplitl [Hb]; · iexact Hb
      isplitl [Hu]; · iexact Hu
      iexact Hw
    isplitl [H0 H1 H2 H3 H4 H5 H6 H7 HR1]
    · isplitr [HR1]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      iexact HR1
    isplitr [HO]
    · isplitr [HR2]
      · isplitl [S8]; · iexact S8
        isplitl [S9]; · iexact S9
        isplitl [S10]; · iexact S10
        isplitl [S11]; · iexact S11
        isplitl [S12]; · iexact S12
        isplitl [S13]; · iexact S13
        isplitl [Sr0]; · iexact Sr0
        iexact Sr1
      iexact HR2
    unfold Owe
    iexact HO

/-- A subcore's entry of the body table. -/
theorem defs₀_vector (c : Fin τ.nSC) (s : Fin τ.nSub) :
    defs₀ (F := F) (.scVector c s) 0 ()
      = SparseCore.onTile hcore0 hsub0 (fun c s => cc0_body (F := F) (coordsV c s)
          (Memref.whole main_arg0_scv) (Memref.isWhole_whole _) (Memref.whole main_v35_scv) (Memref.isWhole_whole _)
          (Memref.whole main_v37_scv) (Memref.isWhole_whole _) (Memref.whole main_v38_0_scv) (Memref.isWhole_whole _)
          (Memref.whole main_v38_1_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          (Memref.whole cc0_scratch5) (Memref.isWhole_whole _) (Memref.whole cc0_scratch6) (Memref.isWhole_whole _)
          (Memref.whole cc0_scratch7) (Memref.isWhole_whole _) cc0_scratch8 cc0_scratch9 cc0_scratch10 cc0_scratch11 cc0_scratch12
          cc0_scratch13 cc0_scoped0 cc0_scoped1) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- What the launch asks of every subcore. -/
theorem tileObl : (K (F := F)).TileObl (D (F := F)) 𝒱 (P N) v₀ 0 := by
  intro d c i O W hO _ _
  simp only [show (P N).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body N d (Fin.cast nCore_zero c) (Fin.cast nSub_zero i) O W hO).trans (wp_mono frame _ _ fun _ => obl_post)

end Cert.Proof.Sched

end
-- ==== Proof.Host.lean ====
/- What the TensorCore computes before the launch: the tables of slopes and offsets, as functions of the increments,
   and the contents of its buffers at the launch. -/
module

public import proofs.«01_k».proof.Proof.Launch
public import Idealize.ShloMosaic.Lib.StableHlo.Run
public import Idealize.ShloMosaic.Lib.Pipeline.Frame

@[expose] public section

noncomputable section

namespace Cert.Proof.Sched

open Cert.KernelIdeal Cert.KernelIdeal.Gen

open Idealize.ShloMosaic
open Idealize.ShloMosaic.TcCoe Idealize.ShloMosaic.StableHlo
open Idealize.SL.Sem

variable {F : FTy → Type} [FloatOps F]

/-- Contents of a float vector of shape `s`. -/
abbrev Vec (F : FTy → Type) (s : Shape) : Type := (⟨s, .f32⟩ : BufTy).Contents (Elt F)

/-! ## The tables as functions -/

/-- One entry put before 63. -/
def join1 (a : Vec F S1) (b : Vec F S63) : Vec F S64 :=
  concatenate S64 0 [⟨S1, a⟩, ⟨S63, b⟩] concatenates_S1_S63_S64_d0
/-- One entry put after 63. -/
def join63 (a : Vec F S63) (b : Vec F S1) : Vec F S64 :=
  concatenate S64 0 [⟨S63, a⟩, ⟨S1, b⟩] concatenates_S63_S1_S64_d0
/-- The vector of 63 equal entries. -/
abbrev all63 (a : Vec F S_) : Vec F S63 := broadcastInDim S63 ![] bcast_S_S63 a
/-- The vector of one entry. -/
abbrev one (a : Vec F S_) : Vec F S1 := broadcastInDim S1 ![] bcast_S_S1 a
/-- The left ends of the 63 segments. -/
abbrev lo (x : Vec F S64) : Vec F S63 := extractStridedSlice S63 ![0] x slices_S64_S63_0
/-- The right ends of the 63 segments. -/
abbrev hi (x : Vec F S64) : Vec F S63 := extractStridedSlice S63 ![1] x slices_S64_S63_1

/-- The logarithm of the schedule's start. -/
def lg0 : Vec F S_ := Host.log (constant S_ .f32 0x38D1B717#32)
/-- The logarithm of the schedule's end. -/
def lgT : Vec F S_ := Host.log (constant S_ .f32 0x42A00000#32)
/-- The schedule's logarithmic length. -/
def gap : Vec F S_ := subf lgT lg0
/-- The fractions `i / 63`. -/
def frac : Vec F S63 := Host.divf (sitofp .f32 (iotaInDim S63 32 0)) (all63 (constant S_ .f32 0x427C0000#32))
/-- The 64 knots: a mean of 0 and 1 at each fraction, and 1. -/
def knots : Vec F S64 :=
  join63
    (addf
      (mulf (broadcastInDim S63 ![0] bcast_S1_S63_0 (shapeCast S1 (constant S_ .f32 0x00000000#32) shapeCasts_S_S1))
        (subf (all63 (constant S_ .f32 0x3F800000#32)) frac))
      (mulf (broadcastInDim S63 ![0] bcast_S1_S63_0 (shapeCast S1 (constant S_ .f32 0x3F800000#32) shapeCasts_S_S1)) frac))
    (one (constant S_ .f32 0x3F800000#32))
/-- The softmax's numerators. -/
def weights (θ : Vec F S63) : Vec F S63 :=
  Host.exp (subf θ (broadcastInDim S63 ![0] bcast_S1_S63_0 (one (maximumf (constant S_ .f32 0xFF800000#32)
    (Host.reduce FloatOps.maximumf θ (constant S_ .f32 0xFF800000#32) reducesTo_S63_S_d0 h_S_)))))
/-- The softmax. -/
def steps (θ : Vec F S63) : Vec F S63 :=
  Host.divf (weights θ) (broadcastInDim S63 ![0] bcast_S1_S63_0 (one
    (Host.reduceAdd (weights θ) (constant S_ .f32 0x00000000#32) reducesTo_S63_S_d0 h_S_)))
/-- The knots' values: the running sum of 0 and the softmax. -/
def heights (θ : Vec F S63) : Vec F S64 :=
  Host.reduceWindowAdd ![64] ![1] ![63] ![0] (join1 (one (constant S_ .f32 0x00000000#32)) (steps θ))
    (broadcastInDim S_ ![] bcast_S_S_ (constant S_ .f32 0x00000000#32)) reduceWindows_S64_S64_w64s1p63_0 h_S_
/-- Each segment's slope. -/
def slopes (θ : Vec F S63) : Vec F S63 :=
  Host.divf (subf (hi (heights θ)) (lo (heights θ)))
    (addf (subf (hi knots) (lo knots)) (all63 (constant S_ .f32 0x219392EF#32)))
/-- Each segment's slope of the logarithm. -/
def segA (θ : Vec F S63) : Vec F S63 := mulf (all63 gap) (slopes θ)
/-- Each segment's offset of the logarithm. -/
def segB (θ : Vec F S63) : Vec F S63 :=
  addf (all63 lg0) (mulf (all63 gap) (subf (lo (heights θ)) (mulf (lo knots) (slopes θ))))
/-- A table of 64 led by its first entry. -/
def led (a : Vec F S63) : Vec F S64 := join1 (extractStridedSlice S1 ![0] a slices_S63_S1_0) a

/-! ## The operations -/

/-- The end points and their logarithms, and the 64 knots of `jnp.linspace`. -/
def ops1 : List (HloOp τ sig (Elt F)) :=
  [ nullary main_cst (constant S_ .f32 0x38D1B717#32),
    unary main_cst main_v0 (Host.log : (⟨S_, .f32⟩ : BufTy).Contents (Elt F) → (⟨S_, .f32⟩ : BufTy).Contents (Elt F)),
    nullary main_cst_0 (constant S_ .f32 0x42A00000#32),
    unary main_cst_0 main_v1 (Host.log : (⟨S_, .f32⟩ : BufTy).Contents (Elt F) → (⟨S_, .f32⟩ : BufTy).Contents (Elt F)),
    binary main_v1 main_v0 main_v2 (subf : (⟨S_, .f32⟩ : BufTy).Contents (Elt F) → (⟨S_, .f32⟩ : BufTy).Contents (Elt F) → (⟨S_, .f32⟩ : BufTy).Contents (Elt F)),
    nullary main_cst_1 (constant S_ .f32 0x00000000#32),
    nullary main_cst_2 (constant S_ .f32 0x3F800000#32),
    TRef.unary (TRef.of (T := ⟨S_, .f32⟩) main_cst_1) (TRef.of (T := ⟨S_, .f32⟩) main_call0_v0) id,
    TRef.unary (TRef.of (T := ⟨S_, .f32⟩) main_cst_2) (TRef.of (T := ⟨S_, .f32⟩) main_call0_v1) id,
    TRef.binary (TRef.of (T := ⟨S_, .f32⟩) main_call0_v1) (TRef.of (T := ⟨S_, .f32⟩) main_call0_v0) (TRef.of (T := ⟨S_, .f32⟩) main_call0_v2) subf,
    TRef.nullary (TRef.of (T := ⟨S_, .f32⟩) main_call0_cst) (constant S_ .f32 0x427C0000#32),
    TRef.binary (TRef.of (T := ⟨S_, .f32⟩) main_call0_v2) (TRef.of (T := ⟨S_, .f32⟩) main_call0_cst) (TRef.of (T := ⟨S_, .f32⟩) main_call0_v3) Host.divf,
    TRef.nullary (TRef.of (T := ⟨S63, .f32⟩) main_call0_v4) (sitofp .f32 (iotaInDim S63 32 0)),
    TRef.nullary (TRef.of (T := ⟨S_, .f32⟩) main_call0_cst_0) (constant S_ .f32 0x427C0000#32),
    TRef.unary (TRef.of (T := ⟨S_, .f32⟩) main_call0_cst_0) (TRef.of (T := ⟨S63, .f32⟩) main_call0_v5) (broadcastInDim S63 ![] bcast_S_S63),
    TRef.binary (TRef.of (T := ⟨S63, .f32⟩) main_call0_v4) (TRef.of (T := ⟨S63, .f32⟩) main_call0_v5) (TRef.of (T := ⟨S63, .f32⟩) main_call0_v6) Host.divf,
    TRef.reshape (TRef.of (T := ⟨S_, .f32⟩) main_call0_v0) (TRef.of (T := ⟨S1, .f32⟩) main_call0_v7) (rfl : (.f32 : EltTy) = .f32) shapeCasts_S_S1,
    TRef.nullary (TRef.of (T := ⟨S_, .f32⟩) main_call0_cst_1) (constant S_ .f32 0x3F800000#32),
    TRef.unary (TRef.of (T := ⟨S_, .f32⟩) main_call0_cst_1) (TRef.of (T := ⟨S63, .f32⟩) main_call0_v8) (broadcastInDim S63 ![] bcast_S_S63),
    TRef.binary (TRef.of (T := ⟨S63, .f32⟩) main_call0_v8) (TRef.of (T := ⟨S63, .f32⟩) main_call0_v6) (TRef.of (T := ⟨S63, .f32⟩) main_call0_v9) subf,
    TRef.unary (TRef.of (T := ⟨S1, .f32⟩) main_call0_v7) (TRef.of (T := ⟨S63, .f32⟩) main_call0_v10) (broadcastInDim S63 ![0] bcast_S1_S63_0),
    TRef.binary (TRef.of (T := ⟨S63, .f32⟩) main_call0_v10) (TRef.of (T := ⟨S63, .f32⟩) main_call0_v9) (TRef.of (T := ⟨S63, .f32⟩) main_call0_v11) mulf,
    TRef.reshape (TRef.of (T := ⟨S_, .f32⟩) main_call0_v1) (TRef.of (T := ⟨S1, .f32⟩) main_call0_v12) (rfl : (.f32 : EltTy) = .f32) shapeCasts_S_S1,
    TRef.unary (TRef.of (T := ⟨S1, .f32⟩) main_call0_v12) (TRef.of (T := ⟨S63, .f32⟩) main_call0_v13) (broadcastInDim S63 ![0] bcast_S1_S63_0),
    TRef.binary (TRef.of (T := ⟨S63, .f32⟩) main_call0_v13) (TRef.of (T := ⟨S63, .f32⟩) main_call0_v6) (TRef.of (T := ⟨S63, .f32⟩) main_call0_v14) mulf,
    TRef.binary (TRef.of (T := ⟨S63, .f32⟩) main_call0_v11) (TRef.of (T := ⟨S63, .f32⟩) main_call0_v14) (TRef.of (T := ⟨S63, .f32⟩) main_call0_v15) addf,
    TRef.unary (TRef.of (T := ⟨S_, .f32⟩) main_call0_v1) (TRef.of (T := ⟨S1, .f32⟩) main_call0_v16) (broadcastInDim S1 ![] bcast_S_S1),
    TRef.binary (TRef.of (T := ⟨S63, .f32⟩) main_call0_v15) (TRef.of (T := ⟨S1, .f32⟩) main_call0_v16) (TRef.of (T := ⟨S64, .f32⟩) main_v3) join63 ]

/-- The softmax of the increments, a zero put before it, and the running sum. -/
def ops2 : List (HloOp τ sig (Elt F)) :=
  [ nullary main_cst_3 (constant S_ .f32 0xFF800000#32),
    binary main_arg1 main_cst_3 main_v4 ((fun x v => Host.reduce FloatOps.maximumf x v reducesTo_S63_S_d0 h_S_) : (⟨S63, .f32⟩ : BufTy).Contents (Elt F) → (⟨S_, .f32⟩ : BufTy).Contents (Elt F) → (⟨S_, .f32⟩ : BufTy).Contents (Elt F)),
    nullary main_cst_4 (constant S_ .f32 0xFF800000#32),
    binary main_cst_4 main_v4 main_v5 (maximumf : (⟨S_, .f32⟩ : BufTy).Contents (Elt F) → (⟨S_, .f32⟩ : BufTy).Contents (Elt F) → (⟨S_, .f32⟩ : BufTy).Contents (Elt F)),
    unary main_v5 main_v6 (broadcastInDim S1 ![] bcast_S_S1 : (⟨S_, .f32⟩ : BufTy).Contents (Elt F) → (⟨S1, .f32⟩ : BufTy).Contents (Elt F)),
    unary main_v6 main_v7 (broadcastInDim S63 ![0] bcast_S1_S63_0 : (⟨S1, .f32⟩ : BufTy).Contents (Elt F) → (⟨S63, .f32⟩ : BufTy).Contents (Elt F)),
    binary main_arg1 main_v7 main_v8 (subf : (⟨S63, .f32⟩ : BufTy).Contents (Elt F) → (⟨S63, .f32⟩ : BufTy).Contents (Elt F) → (⟨S63, .f32⟩ : BufTy).Contents (Elt F)),
    unary main_v8 main_v9 (Host.exp : (⟨S63, .f32⟩ : BufTy).Contents (Elt F) → (⟨S63, .f32⟩ : BufTy).Contents (Elt F)),
    nullary main_cst_5 (constant S_ .f32 0x00000000#32),
    binary main_v9 main_cst_5 main_v10 ((fun x v => Host.reduceAdd x v reducesTo_S63_S_d0 h_S_) : (⟨S63, .f32⟩ : BufTy).Contents (Elt F) → (⟨S_, .f32⟩ : BufTy).Contents (Elt F) → (⟨S_, .f32⟩ : BufTy).Contents (Elt F)),
    unary main_v10 main_v11 (broadcastInDim S1 ![] bcast_S_S1 : (⟨S_, .f32⟩ : BufTy).Contents (Elt F) → (⟨S1, .f32⟩ : BufTy).Contents (Elt F)),
    unary main_v11 main_v12 (broadcastInDim S63 ![0] bcast_S1_S63_0 : (⟨S1, .f32⟩ : BufTy).Contents (Elt F) → (⟨S63, .f32⟩ : BufTy).Contents (Elt F)),
    binary main_v9 main_v12 main_v13 (Host.divf : (⟨S63, .f32⟩ : BufTy).Contents (Elt F) → (⟨S63, .f32⟩ : BufTy).Contents (Elt F) → (⟨S63, .f32⟩ : BufTy).Contents (Elt F)),
    nullary main_cst_6 (constant S_ .f32 0x00000000#32),
    unary main_cst_6 main_v14 (broadcastInDim S1 ![] bcast_S_S1 : (⟨S_, .f32⟩ : BufTy).Contents (Elt F) → (⟨S1, .f32⟩ : BufTy).Contents (Elt F)),
    binary main_v14 main_v13 main_v15 join1,
    TRef.nullary (TRef.of (T := ⟨S_, .f32⟩) main_call1_call0_cst) (constant S_ .f32 0x00000000#32),
    TRef.unary (TRef.of (T := ⟨S_, .f32⟩) main_call1_call0_cst) (TRef.of (T := ⟨S_, .f32⟩) main_call1_call0_v0) (broadcastInDim S_ ![] bcast_S_S_),
    TRef.binary (TRef.of (T := ⟨S64, .f32⟩) main_v15) (TRef.of (T := ⟨S_, .f32⟩) main_call1_call0_v0) (TRef.of (T := ⟨S64, .f32⟩) main_v16) (fun x v => Host.reduceWindowAdd ![64] ![1] ![63] ![0] x v reduceWindows_S64_S64_w64s1p63_0 h_S_) ]

/-- Slope and offset of each segment, and the two tables led by their first entry. -/
def ops3 : List (HloOp τ sig (Elt F)) :=
  [ unary main_v3 main_v17 ((extractStridedSlice S63 ![0] · slices_S64_S63_0) : (⟨S64, .f32⟩ : BufTy).Contents (Elt F) → (⟨S63, .f32⟩ : BufTy).Contents (Elt F)),
    unary main_v3 main_v18 ((extractStridedSlice S63 ![1] · slices_S64_S63_1) : (⟨S64, .f32⟩ : BufTy).Contents (Elt F) → (⟨S63, .f32⟩ : BufTy).Contents (Elt F)),
    unary main_v16 main_v19 ((extractStridedSlice S63 ![0] · slices_S64_S63_0) : (⟨S64, .f32⟩ : BufTy).Contents (Elt F) → (⟨S63, .f32⟩ : BufTy).Contents (Elt F)),
    unary main_v16 main_v20 ((extractStridedSlice S63 ![1] · slices_S64_S63_1) : (⟨S64, .f32⟩ : BufTy).Contents (Elt F) → (⟨S63, .f32⟩ : BufTy).Contents (Elt F)),
    binary main_v20 main_v19 main_v21 (subf : (⟨S63, .f32⟩ : BufTy).Contents (Elt F) → (⟨S63, .f32⟩ : BufTy).Contents (Elt F) → (⟨S63, .f32⟩ : BufTy).Contents (Elt F)),
    binary main_v18 main_v17 main_v22 (subf : (⟨S63, .f32⟩ : BufTy).Contents (Elt F) → (⟨S63, .f32⟩ : BufTy).Contents (Elt F) → (⟨S63, .f32⟩ : BufTy).Contents (Elt F)),
    nullary main_cst_7 (constant S_ .f32 0x219392EF#32),
    unary main_cst_7 main_v23 (broadcastInDim S63 ![] bcast_S_S63 : (⟨S_, .f32⟩ : BufTy).Contents (Elt F) → (⟨S63, .f32⟩ : BufTy).Contents (Elt F)),
    binary main_v22 main_v23 main_v24 (addf : (⟨S63, .f32⟩ : BufTy).Contents (Elt F) → (⟨S63, .f32⟩ : BufTy).Contents (Elt F) → (⟨S63, .f32⟩ : BufTy).Contents (Elt F)),
    binary main_v21 main_v24 main_v25 (Host.divf : (⟨S63, .f32⟩ : BufTy).Contents (Elt F) → (⟨S63, .f32⟩ : BufTy).Contents (Elt F) → (⟨S63, .f32⟩ : BufTy).Contents (Elt F)),
    binary main_v17 main_v25 main_v26 (mulf : (⟨S63, .f32⟩ : BufTy).Contents (Elt F) → (⟨S63, .f32⟩ : BufTy).Contents (Elt F) → (⟨S63, .f32⟩ : BufTy).Contents (Elt F)),
    binary main_v19 main_v26 main_v27 (subf : (⟨S63, .f32⟩ : BufTy).Contents (Elt F) → (⟨S63, .f32⟩ : BufTy).Contents (Elt F) → (⟨S63, .f32⟩ : BufTy).Contents (Elt F)),
    unary main_v2 main_v28 (broadcastInDim S63 ![] bcast_S_S63 : (⟨S_, .f32⟩ : BufTy).Contents (Elt F) → (⟨S63, .f32⟩ : BufTy).Contents (Elt F)),
    binary main_v28 main_v25 main_v29 (mulf : (⟨S63, .f32⟩ : BufTy).Contents (Elt F) → (⟨S63, .f32⟩ : BufTy).Contents (Elt F) → (⟨S63, .f32⟩ : BufTy).Contents (Elt F)),
    unary main_v2 main_v30 (broadcastInDim S63 ![] bcast_S_S63 : (⟨S_, .f32⟩ : BufTy).Contents (Elt F) → (⟨S63, .f32⟩ : BufTy).Contents (Elt F)),
    binary main_v30 main_v27 main_v31 (mulf : (⟨S63, .f32⟩ : BufTy).Contents (Elt F) → (⟨S63, .f32⟩ : BufTy).Contents (Elt F) → (⟨S63, .f32⟩ : BufTy).Contents (Elt F)),
    unary main_v0 main_v32 (broadcastInDim S63 ![] bcast_S_S63 : (⟨S_, .f32⟩ : BufTy).Contents (Elt F) → (⟨S63, .f32⟩ : BufTy).Contents (Elt F)),
    binary main_v32 main_v31 main_v33 (addf : (⟨S63, .f32⟩ : BufTy).Contents (Elt F) → (⟨S63, .f32⟩ : BufTy).Contents (Elt F) → (⟨S63, .f32⟩ : BufTy).Contents (Elt F)),
    unary main_v29 main_v34 ((extractStridedSlice S1 ![0] · slices_S63_S1_0) : (⟨S63, .f32⟩ : BufTy).Contents (Elt F) → (⟨S1, .f32⟩ : BufTy).Contents (Elt F)),
    binary main_v34 main_v29 main_v35 join1,
    unary main_v33 main_v36 ((extractStridedSlice S1 ![0] · slices_S63_S1_0) : (⟨S63, .f32⟩ : BufTy).Contents (Elt F) → (⟨S1, .f32⟩ : BufTy).Contents (Elt F)),
    binary main_v36 main_v33 main_v37 join1 ]

/-- The buffers `ops1` writes. -/
abbrev outs1 : List (Ref sig .tc) :=
  [main_cst, main_v0, main_cst_0, main_v1, main_v2, main_cst_1, main_cst_2, main_call0_v0, main_call0_v1, main_call0_v2, main_call0_cst, main_call0_v3, main_call0_v4, main_call0_cst_0, main_call0_v5, main_call0_v6, main_call0_v7, main_call0_cst_1, main_call0_v8, main_call0_v9, main_call0_v10, main_call0_v11, main_call0_v12, main_call0_v13, main_call0_v14, main_call0_v15, main_call0_v16, main_v3]

/-- The buffers `ops2` writes. -/
abbrev outs2 : List (Ref sig .tc) :=
  [main_cst_3, main_v4, main_cst_4, main_v5, main_v6, main_v7, main_v8, main_v9, main_cst_5, main_v10, main_v11, main_v12, main_v13, main_cst_6, main_v14, main_v15, main_call1_call0_cst, main_call1_call0_v0, main_v16]

/-- The buffers `ops3` writes. -/
abbrev outs3 : List (Ref sig .tc) :=
  [main_v17, main_v18, main_v19, main_v20, main_v21, main_v22, main_cst_7, main_v23, main_v24, main_v25, main_v26, main_v27, main_v28, main_v29, main_v30, main_v31, main_v32, main_v33, main_v34, main_v35, main_v36, main_v37]

/-- `ops1` names the TensorCore's buffers only. -/
theorem ops1_sub : (ops1 : List (HloOp τ sig (Elt F))).Forall fun op => op.bufs ⊆ tcRefs τ sig :=
  ⟨nullary_bufs_sub .., unary_bufs_sub .., nullary_bufs_sub .., unary_bufs_sub .., binary_bufs_sub .., nullary_bufs_sub .., nullary_bufs_sub .., unary_bufs_sub .., unary_bufs_sub .., binary_bufs_sub .., nullary_bufs_sub .., binary_bufs_sub .., nullary_bufs_sub .., nullary_bufs_sub .., unary_bufs_sub .., binary_bufs_sub .., reshape_bufs_sub .., nullary_bufs_sub .., unary_bufs_sub .., binary_bufs_sub .., unary_bufs_sub .., binary_bufs_sub .., reshape_bufs_sub .., unary_bufs_sub .., binary_bufs_sub .., binary_bufs_sub .., unary_bufs_sub .., binary_bufs_sub ..⟩

/-- `ops1` allocates nothing. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

/-- `ops1` writes no buffer outside its list. -/
theorem ops1_writes : (ops1 : List (HloOp τ sig (Elt F))).Forall
    fun op => op.writes ⊆ (outs1.map (Proc.devRef (τ := τ) .tc)).toFinset :=
  forall_writes_sub_of_map rfl

/-- `ops2` names the TensorCore's buffers only. -/
theorem ops2_sub : (ops2 : List (HloOp τ sig (Elt F))).Forall fun op => op.bufs ⊆ tcRefs τ sig :=
  ⟨nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub ..⟩

/-- `ops2` allocates nothing. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- `ops2` writes no buffer outside its list. -/
theorem ops2_writes : (ops2 : List (HloOp τ sig (Elt F))).Forall
    fun op => op.writes ⊆ (outs2.map (Proc.devRef (τ := τ) .tc)).toFinset :=
  forall_writes_sub_of_map rfl

/-- `ops3` names the TensorCore's buffers only. -/
theorem ops3_sub : (ops3 : List (HloOp τ sig (Elt F))).Forall fun op => op.bufs ⊆ tcRefs τ sig :=
  ⟨unary_bufs_sub .., unary_bufs_sub .., unary_bufs_sub .., unary_bufs_sub .., binary_bufs_sub .., binary_bufs_sub .., nullary_bufs_sub .., unary_bufs_sub .., binary_bufs_sub .., binary_bufs_sub .., binary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub ..⟩

/-- `ops3` allocates nothing. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- `ops3` writes no buffer outside its list. -/
theorem ops3_writes : (ops3 : List (HloOp τ sig (Elt F))).Forall
    fun op => op.writes ⊆ (outs3.map (Proc.devRef (τ := τ) .tc)).toFinset :=
  forall_writes_sub_of_map rfl

/-- All the operations before the launch. -/
def ops : List (HloOp τ sig (Elt F)) := ops1 ++ (ops2 ++ ops3)

/-- They name the TensorCore's buffers only. -/
theorem ops_sub : ∀ op ∈ (ops : List (HloOp τ sig (Elt F))), op.bufs ⊆ tcRefs τ sig := by
  intro op h
  rcases List.mem_append.mp h with h | h
  · exact List.forall_iff_forall_mem.mp ops1_sub op h
  rcases List.mem_append.mp h with h | h
  · exact List.forall_iff_forall_mem.mp ops2_sub op h
  · exact List.forall_iff_forall_mem.mp ops3_sub op h
/-- They allocate nothing. -/
theorem ops_fresh : ∀ op ∈ (ops : List (HloOp τ sig (Elt F))), op.fresh = ∅ := by
  intro op h
  rcases List.mem_append.mp h with h | h
  · exact List.forall_iff_forall_mem.mp ops1_fresh op h
  rcases List.mem_append.mp h with h | h
  · exact List.forall_iff_forall_mem.mp ops2_fresh op h
  · exact List.forall_iff_forall_mem.mp ops3_fresh op h

set_option maxRecDepth 16384 in
set_option maxHeartbeats 4000000 in
/-- The program: the operations, then the launch. -/
theorem main_eq (d : Dev nD) :
    main (F := F) d = (seq ops >>= fun _ => do (sc.run d 0 : Prog _ PUnit.{1}); pure ⟨⟩) := by
  rw [ops, seq_append, seq_append]
  rfl

/-! ## The buffers at the launch -/

/-- A buffer none of the operations writes keeps its contents. -/
theorem after_keep (V : Valuation τ sig (Elt F)) (r : Ref sig .tc) (h1 : r ∉ outs1) (h2 : r ∉ outs2) (h3 : r ∉ outs3) :
    after ops V (Proc.devRef .tc r) = V (Proc.devRef .tc r) := by
  rw [ops, after_append, after_append, after_of_writes_sub ops3 _ ops3_writes h3, after_of_writes_sub ops2 _ ops2_writes h2,
    after_of_writes_sub ops1 _ ops1_writes h1]

section
variable (V : Valuation τ sig (Elt F))

set_option maxRecDepth 8192 in
set_option maxHeartbeats 2000000 in
theorem after1_v0 : after ops1 V (no_index (Proc.devRef .tc main_v0)) = lg0 := by
  simp only [ops1, TRef.binary, TRef.nullary, TRef.reshape, TRef.unary, TRef.toBuf, TRef.ofBuf, cast_eq]
  after_results_simp
  all_goals rfl
set_option maxRecDepth 8192 in
set_option maxHeartbeats 2000000 in
theorem after1_v2 : after ops1 V (no_index (Proc.devRef .tc main_v2)) = gap := by
  simp only [ops1, TRef.binary, TRef.nullary, TRef.reshape, TRef.unary, TRef.toBuf, TRef.ofBuf, cast_eq]
  after_results_simp
  all_goals rfl
set_option maxRecDepth 8192 in
set_option maxHeartbeats 2000000 in
theorem after1_v3 : after ops1 V (no_index (Proc.devRef .tc main_v3)) = knots := by
  simp only [ops1, TRef.binary, TRef.nullary, TRef.reshape, TRef.unary, TRef.toBuf, TRef.ofBuf, cast_eq]
  after_results_simp
  all_goals rfl
set_option maxRecDepth 8192 in
set_option maxHeartbeats 2000000 in
theorem after2_v16 : after ops2 V (no_index (Proc.devRef .tc main_v16)) = heights (V (Proc.devRef .tc main_arg1)) := by
  simp only [ops2, TRef.binary, TRef.nullary, TRef.reshape, TRef.unary, TRef.toBuf, TRef.ofBuf, cast_eq]
  after_results_simp
  all_goals rfl
end

/-- What the third window reads of the first two. -/
theorem after2_keep (V : Valuation τ sig (Elt F)) (r : Ref sig .tc) (h : r ∉ outs2) :
    after ops2 V (Proc.devRef .tc r) = V (Proc.devRef .tc r) :=
  after_of_writes_sub ops2 _ ops2_writes h
theorem after1_keep (V : Valuation τ sig (Elt F)) (r : Ref sig .tc) (h : r ∉ outs1) :
    after ops1 V (Proc.devRef .tc r) = V (Proc.devRef .tc r) :=
  after_of_writes_sub ops1 _ ops1_writes h

section
variable (V : Valuation τ sig (Elt F))

/-- The contents after the first two windows. -/
def atThree : Valuation τ sig (Elt F) := after ops2 (after ops1 V)
theorem atThree_v0 : atThree V (no_index (Proc.devRef .tc main_v0)) = lg0 :=
  (after2_keep _ main_v0 (by decide)).trans (after1_v0 V)
theorem atThree_v2 : atThree V (no_index (Proc.devRef .tc main_v2)) = gap :=
  (after2_keep _ main_v2 (by decide)).trans (after1_v2 V)
theorem atThree_v3 : atThree V (no_index (Proc.devRef .tc main_v3)) = knots :=
  (after2_keep _ main_v3 (by decide)).trans (after1_v3 V)
theorem atThree_v16 : atThree V (no_index (Proc.devRef .tc main_v16)) = heights (V (Proc.devRef .tc main_arg1)) :=
  (after2_v16 _).trans (congrArg heights (after1_keep V main_arg1 (by decide)))

set_option maxRecDepth 8192 in
set_option maxHeartbeats 2000000 in
/-- At the launch the first table holds the led slopes. -/
theorem after_A : after ops V (Proc.devRef .tc main_v35) = led (segA (V (Proc.devRef .tc main_arg1))) := by
  rw [ops, after_append, after_append]
  change after ops3 (atThree V) _ = _
  simp only [ops3]
  after_results_simp
  simp only [atThree_v2, atThree_v3, atThree_v16]
  rfl

set_option maxRecDepth 8192 in
set_option maxHeartbeats 2000000 in
/-- At the launch the second table holds the led offsets. -/
theorem after_B : after ops V (Proc.devRef .tc main_v37) = led (segB (V (Proc.devRef .tc main_arg1))) := by
  rw [ops, after_append, after_append]
  change after ops3 (atThree V) _ = _
  simp only [ops3]
  after_results_simp
  simp only [atThree_v0, atThree_v2, atThree_v3, atThree_v16]
  rfl
end

end Cert.Proof.Sched
-- ==== Proof.Run.lean ====
/- The program's run: the TensorCore's operations, the launch, and what the buffers hold at the end. -/
module

public import proofs.«01_k».proof.Proof.Host

@[expose] public section

noncomputable section

namespace Cert.Proof.Sched

open Cert.KernelIdeal Cert.KernelIdeal.Gen

open Idealize.ShloMosaic Idealize.ShloMosaic.TcCoe Idealize.ShloMosaic.StableHlo
open Idealize.ShloMosaic.SparseCore (S V T)
open Idealize.ShloMosaic.SparseCore.Cfg (HIx Pay)
open Idealize.ShloMosaic.Pipeline (ucRefs unscopedBufs_held sub_ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- The buffers' contents at the launch. -/
def atCall (d : Dev nD) : Valuation τ sig (Elt F) := after ops (launchContents m d)

/-- The increments' buffer. -/
abbrev θRef : DevRef τ sig := Proc.devRef .tc (main_arg1 : Ref sig .tc)
abbrev θLoc (d : Dev nD) : Loc nD τ sig := (d, θRef)

/-! ## The launch element of the ghost state -/

/-- The handshakes' tokens; no counter. -/
def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

/-- The launch element gives the handshakes their tokens; the payloads ask for nothing more. -/
theorem hu₀ (N : Dev nD → Valuation τ sig (Elt F)) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P N).x q thr) := by
  have e : (bigSep Finset.univ fun thr : Thread nD τ => bigSep Finset.univ fun q : Fin 1 => (P N).x q thr) = (iprop(emp) : sProp 𝕄) :=
    (bigSep_congr fun _ _ => bigSep_univ_of_subsingleton (0 : Fin 1)).trans (bigSep_nothing _)
  rw [e, bigSep_nothing]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The TensorCore -/

/-- The buffers the call takes and the increments'. -/
def callRefs : Finset (DevRef τ sig) := {tRef, aRef, bRef, uRef, wRef, θRef}

theorem callRefs_sub : callRefs ⊆ ucRefs τ sig := by
  intro b hb
  simp only [callRefs, Finset.mem_insert, Finset.mem_singleton] at hb
  rcases hb with rfl | rfl | rfl | rfl | rfl | rfl <;>
    exact Finset.mem_filter.mpr ⟨Finset.mem_map.mpr ⟨_, Finset.mem_univ _, rfl⟩, by decide⟩

omit [FloatOps F] in
/-- Those buffers held are the call's arrays whole, and the increments. -/
theorem held_call (N : Dev nD → Valuation τ sig (Elt F)) (d : Dev nD) :
    (held (d.tc : Thread nD τ) callRefs (N d) : sProp 𝕄)
      = iprop(wholeP N d (N d uRef) (N d wRef) ∗ (θLoc d ↦{fullShare} N d θRef)) := by
  unfold held callRefs wholeP
  rw [SparseCore.bigSep_insert' (by decide), SparseCore.bigSep_insert' (by decide), SparseCore.bigSep_insert' (by decide),
    SparseCore.bigSep_insert' (by decide), SparseCore.bigSep_insert' (by decide), bigSep_singleton]
  refine BI.Entails.antisymm ?_ ?_
  · show (_ : sProp 𝕄) ⊢ _
    iintro ⟨H1, H2, H3, H4, H5, H6⟩
    isplitr [H6]
    · isplitl [H1]; · iexact H1
      isplitl [H2]; · iexact H2
      isplitl [H3]; · iexact H3
      isplitl [H4]; · iexact H4
      iexact H5
    iexact H6
  · show (_ : sProp 𝕄) ⊢ _
    iintro ⟨⟨H1, H2, H3, H4, H5⟩, H6⟩
    isplitl [H1]; · iexact H1
    isplitl [H2]; · iexact H2
    isplitl [H3]; · iexact H3
    isplitl [H4]; · iexact H4
    isplitl [H5]; · iexact H5
    iexact H6

/-- What the call takes, over its cores. -/
theorem st_eq (N : Dev nD → Valuation τ sig (Elt F)) (d : Dev nD) :
    (bigSep Finset.univ fun c : Fin ((K (F := F)).nCore 0) => (P N).st 0 d c) = wholeP N d (N d uRef) (N d wRef) := by
  rw [whole_eq]; exact bigSep_congr fun _ _ => congrArg (coreP N d _ _) (Fin.ext rfl)
/-- What the call brings back, over its cores. -/
theorem dn_eq (N : Dev nD → Valuation τ sig (Elt F)) (d : Dev nD) :
    (bigSep Finset.univ fun c : Fin ((K (F := F)).nCore 0) => (P N).dn 0 d c) = wholeP N d (G1 N d) (G2 N d) := by
  rw [whole_eq]; exact bigSep_congr fun _ _ => congrArg (coreP N d _ _) (Fin.ext rfl)

/-- What the TensorCore ends with: the call's arrays, the results computed, and the increments. -/
abbrev FIN (d : Dev nD) : sProp 𝕄 :=
  iprop(wholeP (atCall m) d (G1 (atCall m) d) (G2 (atCall m) d) ∗ (θLoc d ↦{fullShare} atCall m d θRef))

/-- The program on a device's TensorCore. -/
theorem hmain (κ : GSem nD τ sig → ℕ) (d : Dev nD) :
    iprop((K (F := F)).ctx EH (P (atCall m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄)
      = held (d.tc : Thread nD τ) (ucRefs τ sig) (launchContents m d)
    from unscopedBufs_held (Ix := HIx 1) (Name := ℕ) (U := UU) (Lvl := ℕ) d (launchContents m d)]
  iintro ⟨#Hctx, Hst, ⟨Hb, Hbufs, Hts, -⟩, -⟩
  iapply (wp_seq 𝒱 none Set.univ d (ucRefs τ sig) _ ops (fun op h => sub_ucRefs op (ops_sub op h)) ops_fresh
    (launchContents m d)) $$ [Hb Hbufs]
  · isplitl [Hb] <;> iassumption
  iintro ⟨Hb, Hbufs⟩
  ihave H := (show (held (d.tc : Thread nD τ) (ucRefs τ sig) (after ops (launchContents m d)) : sProp 𝕄)
      ⊢ iprop((wholeP (atCall m) d (atCall m d uRef) (atCall m d wRef) ∗ (θLoc d ↦{fullShare} atCall m d θRef))
          ∗ held (d.tc : Thread nD τ) (ucRefs τ sig \ callRefs) (atCall m d))
    from Entails.of_eq ((held_sub_split _ callRefs_sub _).trans (by rw [← held_call]; rfl))) $$ Hbufs
  icases H with ⟨⟨Hw, Hθ⟩, -⟩
  simp only [wp_bind, wp_pure]
  iapply ((K (F := F)).wp_run (D (F := F)) 𝒱 (EH := EH) (P := P (atCall m)) κ d 0) $$ [Hst Hw Hθ Hb Hts]
  isplitr; · iexact Hctx
  isplitl [Hst]; · iexact Hst
  isplitl [Hw]; · rw [st_eq]; iexact Hw
  iintro ⟨Hst, Hdn⟩
  ihave Hw := (Entails.of_eq (dn_eq (atCall m) d)) $$ Hdn
  imodintro
  isplitl [Hst]; · iexact Hst
  isplitr [Hb Hts]
  · isplitl [Hw]; · iexact Hw
    iexact Hθ
  isplitl [Hb] <;> iassumption

/-- The final contents that the claims speak of. -/
def fq (d : Dev nD) (s' : Phys nD τ sig (Elt F)) : Prop :=
  s'.mem.mem (tLoc d) = atCall m d tRef ∧ s'.mem.mem (θLoc d) = atCall m d θRef
    ∧ s'.mem.mem (uLoc d) = G1 (atCall m) d ∧ s'.mem.mem (wLoc d) = G2 (atCall m) d

set_option maxRecDepth 16384 in
/-- The memory at the end agrees with what the TensorCore ends with. -/
theorem hfin (d : Dev nD) (s' : Phys nD τ sig (Elt F)) : iprop(FIN m d ∗ SI s') ⊢ (⌜fq m d s'⌝ : sProp 𝕄) := by
  unfold FIN wholeP
  iintro ⟨⟨⟨Ht, -, -, Hu, Hw⟩, Hθ⟩, HSI⟩
  ihave H := (persistent_entails_right (SI_pointsTo_agree (st := s') (ℓ := tLoc d) (I := Finset.univ) (q := fullShare) (f := atCall m d tRef))) $$ [HSI Ht]
  · isplitl [HSI] <;> iassumption
  icases H with ⟨%h1, HSI, -⟩
  ihave H := (persistent_entails_right (SI_pointsTo_agree (st := s') (ℓ := θLoc d) (I := Finset.univ) (q := fullShare) (f := atCall m d θRef))) $$ [HSI Hθ]
  · isplitl [HSI] <;> iassumption
  icases H with ⟨%h2, HSI, -⟩
  ihave H := (persistent_entails_right (SI_pointsTo_agree (st := s') (ℓ := uLoc d) (I := Finset.univ) (q := fullShare) (f := G1 (atCall m) d))) $$ [HSI Hu]
  · isplitl [HSI] <;> iassumption
  icases H with ⟨%h3, HSI, -⟩
  ihave H := (SI_pointsTo_agree (st := s') (ℓ := wLoc d) (I := Finset.univ) (q := fullShare) (f := G2 (atCall m) d)) $$ [HSI Hw]
  · isplitl [HSI] <;> iassumption
  icases H with %h4
  ipureintro
  exact ⟨funext fun i => h1 i (Finset.mem_univ i), funext fun i => h2 i (Finset.mem_univ i),
    funext fun i => h3 i (Finset.mem_univ i), funext fun i => h4 i (Finset.mem_univ i)⟩

/-! ## The run -/

/-- The results' value at a time, from the increments. -/
def out1 (θ : Vec F S63) (t : F .f32) : F .f32 := gw (led (segA θ)) (led (segB θ)) t
def out2 (θ : Vec F S63) (t : F .f32) : F .f32 := gd (led (segA θ)) (led (segB θ)) t

/-- At the end the arguments are as they were, each result is its function of its time, and no semaphore is held. -/
def QC : PUnit × MemSt nD τ sig (Elt F) → Prop := fun r =>
  (∀ d : Dev nD, r.2.mem (tLoc d) = m (tLoc d) ∧ r.2.mem (θLoc d) = m (θLoc d)
    ∧ r.2.mem (uLoc d) = (fun i : S8388608.Idx => out1 (m (θLoc d)) (m (tLoc d) i))
    ∧ r.2.mem (wLoc d) = (fun i : S8388608.Idx => out2 (m (θLoc d)) (m (tLoc d) i)))
  ∧ r.2.sem = fun _ => 0

theorem atCall_t (d : Dev nD) : atCall m d tRef = m (tLoc d) := after_keep _ main_arg0 (by decide) (by decide) (by decide)
theorem atCall_θ (d : Dev nD) : atCall m d θRef = m (θLoc d) := after_keep _ main_arg1 (by decide) (by decide) (by decide)
theorem atCall_A (d : Dev nD) : atCall m d aRef = led (segA (m (θLoc d))) := after_A _
theorem atCall_B (d : Dev nD) : atCall m d bRef = led (segB (m (θLoc d))) := after_B _

theorem QC_of (s' : Phys nD τ sig (Elt F)) (h : ∀ d, fq m d s') (hz : s'.mem.sem = fun _ => 0) : QC m (⟨⟩, s'.mem) := by
  refine ⟨fun d => ?_, hz⟩
  obtain ⟨h1, h2, h3, h4⟩ := h d
  refine ⟨h1.trans (atCall_t m d), h2.trans (atCall_θ m d), h3.trans ?_, h4.trans ?_⟩
  · unfold G1 out1; rw [atCall_t, atCall_A, atCall_B]
  · unfold G2 out2; rw [atCall_t, atCall_A, atCall_B]

/-- Every run of the program from any memory ends so. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (atCall m)) (A := ∅) facts v₀
    (fun q hq => match q with | 0 => nomatch hq)
    (fun q _ => match q with | 0 => tileObl (atCall m))
    (fun q _ => match q with | 0 => SparseCore.Cfg.VecSplit.of_plain (vecSplit (atCall m)))
    m ρ main (fun _ => iprop(emp)) (FIN m) (u₀ (F := F)) (sep_elim_left.trans (hu₀ (atCall m))) (hmain m ρ) (fq m) (hfin m) (QC m)
    (fun s' h hz => QC_of m s' h hz)

end Cert.Proof.Sched
-- ==== Proof.Real.lean ====
/- The arithmetic of the value claim: the words of the two programs' constants as reals, and the equality of the
   logarithm of the first result as the kernel and as the reference compute it. -/
module

public import Idealize.ShloMosaic.PureOps.Ideal
public import Idealize.ShloMosaic.PureOps.Ideal.Laws

@[expose] public section

noncomputable section

namespace Cert.Proof.Sched

open Idealize.ShloMosaic

/-! ## The words -/

theorem word_one : Ideal.ofBits .f32 0x3F800000#32 = ((1 : ℝ) : EReal) := by
  simp [Ideal.ofBits, Ideal.ieee, -EReal.coe_mul]; norm_num
theorem word_63 : Ideal.ofBits .f32 0x427C0000#32 = ((63 : ℝ) : EReal) := by
  simp [Ideal.ofBits, Ideal.ieee, -EReal.coe_mul]; norm_num
theorem word_1023 : Ideal.ofBits .f32 0x447FC000#32 = ((1023 : ℝ) : EReal) := by
  simp [Ideal.ofBits, Ideal.ieee, -EReal.coe_mul]; norm_num
theorem word_80 : Ideal.ofBits .f32 0x42A00000#32 = ((80 : ℝ) : EReal) := by
  simp [Ideal.ofBits, Ideal.ieee, -EReal.coe_mul]; norm_num
theorem word_bot : Ideal.ofBits .f32 0xFF800000#32 = ⊥ := by
  simp [Ideal.ofBits, Ideal.ieee]
theorem word_low : Ideal.ofBits .f32 0xC0A00000#32 = ((-5 : ℝ) : EReal) := by
  simp [Ideal.ofBits, Ideal.ieee, -EReal.coe_mul]; norm_num
theorem word_high : Ideal.ofBits .f32 0x4B189680#32 = ((10000000 : ℝ) : EReal) := by
  simp [Ideal.ofBits, Ideal.ieee, -EReal.coe_mul]

/-- The schedule's start, about 1e-4. -/
theorem word_start : ∃ g : ℝ, Ideal.ofBits .f32 0x38D1B717#32 = (g : EReal) ∧ 9e-5 < g ∧ g < 1 := by
  simp [Ideal.ofBits, Ideal.ieee, -EReal.coe_mul]; norm_num
/-- The stabilizer of the segments' lengths, positive. -/
theorem word_eps : ∃ e : ℝ, Ideal.ofBits .f32 0x219392EF#32 = (e : EReal) ∧ 0 < e := by
  simp [Ideal.ofBits, Ideal.ieee, -EReal.coe_mul]
/-- The logarithm's floor, about 1e-38. -/
theorem word_floor : ∃ z : ℝ, Ideal.ofBits .f32 0x006CE3EE#32 = (z : EReal) ∧ z < 1e-37 := by
  simp [Ideal.ofBits, Ideal.ieee, -EReal.coe_mul]; norm_num

/-! ## Operations at reals -/

theorem log_pos {r : ℝ} (h : 0 < r) : Ideal.log (r : EReal) = (Real.log r : EReal) := if_neg (not_le.mpr h)
theorem exp_real (r : ℝ) : Ideal.exp (r : EReal) = (Real.exp r : EReal) := rfl
theorem div_real {y : ℝ} (h : y ≠ 0) (x : ℝ) : Ideal.div (x : EReal) (y : EReal) = ((x / y : ℝ) : EReal) := by
  rw [Ideal.div_coe h, ← EReal.coe_mul]; congr 1; ring

/-- The clock stays above the logarithm's floor from the time −5 on. -/
theorem clock_floor {g z t : ℝ} (hg : 9e-5 < g) (h1 : g < 1) (hz : z < 1e-37) (ht : -5 ≤ t) :
    z ≤ Real.exp (Real.log g + (Real.log 80 - Real.log g) * t) := by
  have g0 : 0 < g := lt_trans (by norm_num) hg
  have hgap : 0 ≤ Real.log 80 - Real.log g := by
    have := Real.log_le_log g0 (show g ≤ 80 by linarith)
    linarith
  have e : Real.log (g ^ 6 / 80 ^ 5) = 6 * Real.log g - 5 * Real.log 80 := by
    rw [Real.log_div (by positivity) (by positivity), Real.log_pow, Real.log_pow]; norm_num
  have h6 : (9e-5 : ℝ) ^ 6 ≤ g ^ 6 := pow_le_pow_left₀ (by norm_num) hg.le 6
  have hle : g ^ 6 / 80 ^ 5 ≤ Real.exp (Real.log g + (Real.log 80 - Real.log g) * t) := by
    rw [← Real.exp_log (show (0 : ℝ) < g ^ 6 / 80 ^ 5 by positivity), e]
    exact Real.exp_le_exp.mpr (by nlinarith)
  refine le_trans ?_ hle
  rw [le_div_iff₀ (by positivity)]
  nlinarith

/-- The logarithm of the first result: the kernel's offset and slope at the time `t` give what the reference computes
    from the segment's ends. The ends' heights `y0`, `y1` are reals, or they are 0 and ⊥ over the first segment, or ⊥
    both over a later segment at a positive time. -/
theorem logs_agree (l g t x0 δ : ℝ) (y0 y1 : EReal) (hg : 0 < g) (hδ : 0 < δ)
    (hy : (∃ a b : ℝ, y0 = a ∧ y1 = b) ∨ (y0 = 0 ∧ y1 = ⊥ ∧ x0 = 0) ∨ (y0 = ⊥ ∧ y1 = ⊥ ∧ 0 < x0 ∧ 0 < t)) :
    ((l : EReal) + g * (y0 - x0 * Ideal.div (y1 - y0) δ)) + (g * Ideal.div (y1 - y0) δ) * t
      = l + g * (y0 + Ideal.div ((t : EReal) - x0) δ * (y1 - y0)) := by
  have hne := hδ.ne'
  have hi : 0 < 1 / δ := by positivity
  rcases hy with ⟨a, b, rfl, rfl⟩ | ⟨rfl, rfl, rfl⟩ | ⟨rfl, rfl, hx, ht⟩
  · rw [← EReal.coe_sub, ← EReal.coe_sub, div_real hne, div_real hne]
    norm_cast
    field_simp
    ring
  · have e : Ideal.div (⊥ - 0) (δ : EReal) = ⊥ := by
      rw [Ideal.div_coe hne, sub_zero, EReal.bot_mul_coe_of_pos hi]
    rw [e, EReal.coe_mul_bot_of_pos hg, EReal.coe_zero, zero_mul, sub_zero, mul_zero, add_zero, sub_zero, sub_zero,
      div_real hne, zero_add]
    rcases lt_trichotomy t 0 with h | rfl | h
    · rw [EReal.bot_mul_coe_of_neg h, EReal.coe_mul_bot_of_neg (div_neg_of_neg_of_pos h hδ), EReal.coe_mul_top_of_pos hg]
    · simp
    · rw [EReal.bot_mul_coe_of_pos h, EReal.coe_mul_bot_of_pos (div_pos h hδ), EReal.coe_mul_bot_of_pos hg]
  · have e : Ideal.div (⊥ - ⊥) (δ : EReal) = ⊥ := by
      rw [Ideal.div_coe hne, EReal.bot_sub, EReal.bot_mul_coe_of_pos hi]
    rw [e, EReal.coe_mul_bot_of_pos hg, EReal.bot_mul_coe_of_pos ht, EReal.add_bot, EReal.bot_add,
      EReal.coe_mul_bot_of_pos hg, EReal.add_bot]

end Cert.Proof.Sched
-- ==== Proof.Read.lean ====
/- Vectors read at an index, over the extended reals: two vectors joined, `jnp.linspace`, an indexed read at clipped
   indices, and a count of comparisons. Both programs' tables are read through these. -/
module

public import proofs.«01_k».proof.Proof.Real
public import Idealize.ShloMosaic.Lib.IdealHost
public import Idealize.ShloMosaic.Lib.IndicatorCount
public import Idealize.ShloMosaic.Lib.Pipeline.Value
public import Idealize.ShloMosaic.PureOps.Reduce

@[expose] public section

noncomputable section

namespace Cert.Proof.Sched

open Idealize.ShloMosaic Idealize.ShloMosaic.ValueIdx

/-- The rank-0 shape and the vectors' shapes. -/
abbrev D0 : Shape := ⟨0, ![]⟩
abbrev D1 (n : ℕ) : Shape := ⟨1, ![n]⟩

variable {α : Type}

/-! ## Joins, slices and broadcasts -/

section Join
variable {p q n : ℕ} (x : (D1 p).Idx → α) (y : (D1 q).Idx → α) (h : Shape.Concatenates [D1 p, D1 q] (D1 n) 0)

/-- Two vectors joined, read within the first. -/
theorem join_left (j : Fin n) (k : Fin p) (e : k.val = j.val) :
    concatenate (D1 n) 0 [⟨D1 p, x⟩, ⟨D1 q, y⟩] h (ix1 j) = x (ix1 k) :=
  concatenate_pair_apply_left 0 x y h (ix1 j) rfl (ix1 k) fun b => by
    obtain rfl : b = 0 := Subsingleton.elim _ _
    exact e

/-- Two vectors joined, read within the second. -/
theorem join_right (j : Fin n) (k : Fin q) (e : k.val + p = j.val) :
    concatenate (D1 n) 0 [⟨D1 p, x⟩, ⟨D1 q, y⟩] h (ix1 j) = y (ix1 k) :=
  concatenate_pair_apply_right 0 x y h (ix1 j) rfl rfl (ix1 k)
    (fun b hb => absurd (Subsingleton.elim _ _) hb) e

end Join

/-- A slice of a vector reads it from the offset on. -/
theorem slice_at {n k : ℕ} (o : ℕ) (x : (D1 n).Idx → α) (h : (D1 n).Slices ![o] (D1 k)) (j : Fin k) (i : Fin n)
    (e : i.val = o + j.val) : extractStridedSlice (D1 k) ![o] x h (ix1 j) = x (ix1 i) :=
  extractStridedSlice_apply ![o] x h (ix1 j) (ix1 i) fun a => by
    obtain rfl : a = 0 := Subsingleton.elim _ _
    exact e

/-- A one-entry vector broadcast to `n` entries reads its entry. -/
theorem spread_at {n : ℕ} (h : (D1 1).BroadcastsInDim (D1 n) ![0]) (x : (D1 1).Idx → α) (j : (D1 n).Idx) :
    broadcastInDim (D1 n) ![0] h x j = x (ix1 0) :=
  broadcastInDim_apply ![0] h x j (ix1 0) fun a => by
    obtain rfl : a = 0 := Subsingleton.elim _ _
    rfl

/-- A scalar cast to a one-entry vector. -/
theorem cast_at (h : D0.ShapeCasts (D1 1)) (x : D0.Idx → α) (j : (D1 1).Idx) : shapeCast (D1 1) x h j = x ix0 :=
  congrArg x (eq_ix0 _)

/-! ## `jnp.linspace` -/

/-- The fraction `i / N`. -/
theorem frac_at {N : ℕ} (hN : 0 < N) (hN' : N < 2 ^ 31) (w : BitVec 32) (hw : Ideal.ofBits .f32 w = ((N : ℝ) : EReal))
    (hB : D0.BroadcastsInDim (D1 N) ![]) (i : Fin N) :
    (Host.divf (sitofp .f32 (iotaInDim (D1 N) 32 0)) (broadcastInDim (D1 N) ![] hB (constant D0 .f32 w)) : FVec Ideal (D1 N) .f32)
      (ix1 i) = ((i / N : ℝ) : EReal) := by
  have hi : (BitVec.ofNat 32 i.val).toInt = (i.val : ℤ) := by
    rw [BitVec.toInt_ofNat']
    have := i.isLt
    simp only [Int.bmod_def]
    omega
  rw [hostDivf_apply, broadcastInDim_scalar_apply, sitofp_apply, iotaInDim_apply]
  show Ideal.div ((((BitVec.ofNat 32 i.val).toInt : ℝ)) : EReal) (Ideal.ofBits .f32 w) = _
  rw [hi, hw, div_real (by exact_mod_cast hN.ne'), Int.cast_natCast]

/-- `jnp.linspace` from `A` to `B` over `N + 1` points: the mean of the two at `i / N`. -/
theorem lin_at {N M : ℕ} (hM : M = N + 1) (hN : 0 < N) (hN' : N < 2 ^ 31) (w : BitVec 32)
    (hw : Ideal.ofBits .f32 w = ((N : ℝ) : EReal)) (a b : FVec Ideal D0 .f32) {A B : ℝ} (ha : a ix0 = (A : EReal))
    (hb : b ix0 = (B : EReal)) (hS : D0.ShapeCasts (D1 1)) (hR : (D1 1).BroadcastsInDim (D1 N) ![0])
    (hB : D0.BroadcastsInDim (D1 N) ![]) (hO : D0.BroadcastsInDim (D1 1) ![])
    (hC : Shape.Concatenates [D1 N, D1 1] (D1 M) 0) (i : Fin M) :
    (concatenate (D1 M) 0
      [⟨D1 N, addf (mulf (broadcastInDim (D1 N) ![0] hR (shapeCast (D1 1) a hS))
          (subf (broadcastInDim (D1 N) ![] hB (constant D0 .f32 0x3F800000#32))
            (Host.divf (sitofp .f32 (iotaInDim (D1 N) 32 0)) (broadcastInDim (D1 N) ![] hB (constant D0 .f32 w)))))
          (mulf (broadcastInDim (D1 N) ![0] hR (shapeCast (D1 1) b hS))
            (Host.divf (sitofp .f32 (iotaInDim (D1 N) 32 0)) (broadcastInDim (D1 N) ![] hB (constant D0 .f32 w))))⟩,
        ⟨D1 1, broadcastInDim (D1 1) ![] hO b⟩] hC : FVec Ideal (D1 M) .f32) (ix1 i)
      = ((A + (B - A) * (i / N) : ℝ) : EReal) := by
  have hNr : (N : ℝ) ≠ 0 := by exact_mod_cast hN.ne'
  by_cases h : i.val < N
  · rw [join_left _ _ hC i ⟨i.val, h⟩ rfl, addf_apply, mulf_apply, mulf_apply, subf_apply, spread_at, spread_at, cast_at, cast_at,
      frac_at hN hN' w hw, broadcastInDim_scalar_apply, ha, hb]
    show ((A : EReal) * (Ideal.ofBits .f32 0x3F800000#32 - _) + _) = _
    rw [word_one]
    norm_cast
    ring
  · have e : i.val = N := by have := i.isLt; omega
    rw [join_right _ _ hC i 0 (by simp [e]), broadcastInDim_scalar_apply, hb, e, div_self hNr]
    congr 1
    ring

/-! ## Clips, indexed reads and counts -/

/-- A word clipped to 1 … `n`. -/
theorem clip_at (n : ℕ) (hn : n < 2 ^ 31) (w : BitVec 32) (k : ℕ) (hk : (k : ℤ) = min (n : ℤ) (max 1 w.toInt)) :
    IntOp.minsi (BitVec.ofNat 32 n) (IntOp.maxsi 1#32 w) = BitVec.ofNat 32 k := by
  have en : (BitVec.ofNat 32 n).toInt = (n : ℤ) := by
    rw [BitVec.toInt_ofNat', Int.bmod_def]
    omega
  have e1 : (1#32 : BitVec 32).toInt = 1 := by decide
  have ek : (BitVec.ofNat 32 k).toInt = (k : ℤ) := by
    rw [BitVec.toInt_ofNat', Int.bmod_def]
    omega
  apply BitVec.eq_of_toInt_eq
  rw [ek, hk]
  unfold IntOp.minsi IntOp.maxsi
  simp only [BitVec.slt_eq_decide, decide_eq_true_eq, e1, en]
  split <;> split <;> simp_all <;> omega

/-- The dimension numbers of `x[idx]` for a flat `x` and flat indices. -/
abbrev pick (N M : ℕ) (wf : GatherDims.WF (D1 N) ⟨2, ![M, 1]⟩ (D1 M) [] [0] [] [0] [] 1 ![1]) :
    GatherDims (D1 N) ⟨2, ![M, 1]⟩ (D1 M) where
  offsetDims := []
  collapsedSliceDims := [0]
  operandBatchingDims := []
  startIndicesBatchingDims := []
  startIndexMap := [0]
  indexVectorDim := 1
  sliceSizes := ![1]
  wf := wf

/-- Such a read at `i` is the operand at the start index `idx[i, 0]`, clamped. -/
theorem pick_apply {N M : ℕ} (hN : 0 < N)
    (wf : GatherDims.WF (D1 N) ⟨2, ![M, 1]⟩ (D1 M) [] [0] [] [0] [] 1 ![1]) (x : (D1 N).Idx → α)
    (idx : IVec ⟨2, ![M, 1]⟩ 32) (i : Fin M) :
    Host.gather (pick N M wf) x idx (ix1 i) = x (ix1 ⟨min (idx (ix2 i 0)).toInt.toNat (N - 1), by omega⟩) := by
  unfold Host.gather
  refine congrArg x (funext fun a => ?_)
  obtain rfl : a = 0 := Subsingleton.elim _ _
  refine Fin.ext ?_
  have hb : (pick N M wf).batchCoord (ix1 i) 0 = 0 := GatherDims.batchCoord_eq_zero _ _ _ List.not_mem_nil
  have ho : (pick N M wf).offCoord (ix1 i) 0 = 0 := GatherDims.offCoord_eq_zero _ _ _ fun h =>
    ((GatherDims.mem_sKept _ _).mp h).1 (List.mem_singleton.mpr rfl)
  show (pick N M wf).start (ix1 i) idx 0 + (pick N M wf).batchCoord (ix1 i) 0 + (pick N M wf).offCoord (ix1 i) 0 = _
  rw [hb, ho]
  have hs : (pick N M wf).siIdx (ix1 i) ⟨List.idxOf (0 : Fin 1) (pick N M wf).startIndexMap,
      List.idxOf_lt_length_iff.2 (List.mem_singleton.mpr rfl)⟩ = ix2 i 0 := by
    funext b
    match b with
    | ⟨0, _⟩ => rfl
    | ⟨1, _⟩ => rfl
  unfold GatherDims.start
  rw [dif_pos (show (0 : Fin 1) ∈ (pick N M wf).startIndexMap from List.mem_singleton.mpr rfl), hs]
  rfl

/-- `x[v]` at an index `k` in range: the index is not negative, so it is not moved, and it is read. -/
theorem read_at {N M : ℕ} (hN : N < 2 ^ 31) (hM : 1 < M)
    (wf : GatherDims.WF (D1 N) ⟨2, ![M, 1]⟩ (D1 M) [] [0] [] [0] [] 1 ![1]) (x : (D1 N).Idx → α) (v : IVec (D1 M) 32)
    (c : BitVec 32) (hB : D0.BroadcastsInDim (D1 M) ![]) (hC : (D1 M).BroadcastsInDim ⟨2, ![M, 1]⟩ ![0]) (i : Fin M)
    (k : Fin N) (hv : v (ix1 i) = BitVec.ofNat 32 k.val) :
    Host.gather (pick N M wf) x (broadcastInDim ⟨2, ![M, 1]⟩ ![0] hC
        (select (cmpi .slt v (broadcastInDim (D1 M) ![] hB (constantI D0 32 0#32)))
          (addi v (broadcastInDim (D1 M) ![] hB (constantI D0 32 c))) v)) (ix1 i) = x (ix1 k) := by
  have ek : (BitVec.ofNat 32 k.val).toInt = (k.val : ℤ) := by
    have := k.isLt
    rw [BitVec.toInt_ofNat', Int.bmod_def]
    omega
  rw [pick_apply (by have := k.isLt; omega)]
  refine congrArg x (congrArg ix1 (Fin.ext ?_))
  show min (BitVec.toInt _).toNat (N - 1) = k.val
  rw [broadcastInDim_apply ![0] hC _ (ix2 i 0) (ix1 i) (fun a => by
    obtain rfl : a = 0 := Subsingleton.elim _ _
    exact (if_neg (show ¬ M = 1 by omega)).symm), select_apply]
  have hz : cmpi .slt v (broadcastInDim (D1 M) ![] hB (constantI D0 32 0#32)) (ix1 i) = 0#1 := by
    show BitVec.ofBool ((v (ix1 i)).slt 0#32) = 0#1
    rw [hv, BitVec.slt_eq_decide, ek, decide_eq_false (by rw [show (0#32 : BitVec 32).toInt = 0 by decide]; omega)]
    rfl
  rw [hz, select_zero, hv, ek]
  have := k.isLt
  omega

/-- A decision's bit is set just when the decision holds. -/
theorem bit_iff (p : Prop) [Decidable p] : BitVec.ofBool (decide p) = 1#1 ↔ p := by
  by_cases h : p <;> simp [h]

/-- The set bits of a row counted in a word. -/
theorem count_bits {N M : ℕ} (P : IVec ⟨2, ![M, N]⟩ 1) (h5 : 1 < 32) (hR : (⟨2, ![M, N]⟩ : Shape).ReducesTo [1] (D1 M))
    (hR' : (⟨2, ![M, N]⟩ : Shape).Reduces [1] (D1 M)) (hu : 0 < D0.numel) (i : Fin M) :
    Host.reduce IntOp.addi (extui 32 P h5) (constantI D0 32 0#32) hR hu (ix1 i)
      = BitVec.ofNat 32 (Finset.univ.filter fun k : Fin N => P (ix2 i k) = 1#1).card := by
  have hl : ∀ k : Fin N, hR'.lift (ix1 i) k = ix2 i k := fun k => by
    funext a
    refine Fin.ext ((Shape.Reduces.lift_val hR' (ix1 i) k a).trans ?_)
    match a with
    | ⟨0, _⟩ => rfl
    | ⟨1, _⟩ => rfl
  rw [Host.reduce_eq_fold_single _ _ _ hR hR', ← IndicatorCount.fold_addi_setWidth_eq_card]
  refine Finset.fold_congr fun k _ => ?_
  exact congrArg (fun j => (P j).setWidth 32) (hl k)

/-- How many entries of `x` lie below `t`'s entry, as a count of the numbers with a property that says so. -/
theorem count_at {N M : ℕ} (hN : 1 < N) (hM : 1 < M) (x : FVec Ideal (D1 N) .f32) (t : FVec Ideal (D1 M) .f32)
    (h1 : (D1 N).BroadcastsInDim ⟨2, ![1, N]⟩ ![1]) (h2 : (⟨2, ![1, N]⟩ : Shape).BroadcastsInDim ⟨2, ![M, N]⟩ ![0, 1])
    (h3 : (D1 M).BroadcastsInDim ⟨2, ![M, 1]⟩ ![0]) (h4 : (⟨2, ![M, 1]⟩ : Shape).BroadcastsInDim ⟨2, ![M, N]⟩ ![0, 1])
    (h5 : 1 < 32) (hR : (⟨2, ![M, N]⟩ : Shape).ReducesTo [1] (D1 M)) (hR' : (⟨2, ![M, N]⟩ : Shape).Reduces [1] (D1 M))
    (hu : 0 < D0.numel) (i : Fin M) (p : Fin N → Prop) [DecidablePred p] (hp : ∀ k, x (ix1 k) < t (ix1 i) ↔ p k) :
    Host.reduce IntOp.addi (extui 32 (cmpf .olt (broadcastInDim ⟨2, ![M, N]⟩ ![0, 1] h2 (broadcastInDim ⟨2, ![1, N]⟩ ![1] h1 x))
        (broadcastInDim ⟨2, ![M, N]⟩ ![0, 1] h4 (broadcastInDim ⟨2, ![M, 1]⟩ ![0] h3 t))) h5) (constantI D0 32 0#32) hR hu (ix1 i)
      = BitVec.ofNat 32 (Finset.univ.filter p).card := by
  rw [count_bits _ h5 hR hR']
  congr 2
  refine Finset.filter_congr fun k _ => ?_
  rw [cmpf_apply, broadcastInDim_apply ![0, 1] h2 _ (ix2 i k) (ix2 0 k), broadcastInDim_apply ![1] h1 _ (ix2 0 k) (ix1 k),
      broadcastInDim_apply ![0, 1] h4 _ (ix2 i k) (ix2 i 0), broadcastInDim_apply ![0] h3 _ (ix2 i 0) (ix1 i)]
  · show Ideal.cmp .olt (x (ix1 k)) (t (ix1 i)) = 1#1 ↔ _
    exact (bit_iff _).trans (hp k)
  · intro a
    obtain rfl : a = 0 := Subsingleton.elim _ _
    exact (if_neg (show ¬ M = 1 by omega)).symm
  · intro a
    match a with
    | ⟨0, _⟩ => exact (if_neg (show ¬ M = 1 by omega)).symm
    | ⟨1, _⟩ => rfl
  · intro a
    obtain rfl : a = 0 := Subsingleton.elim _ _
    exact (if_neg (show ¬ N = 1 by omega)).symm
  · intro a
    match a with
    | ⟨0, _⟩ => rfl
    | ⟨1, _⟩ => exact (if_neg (show ¬ N = 1 by omega)).symm

end Cert.Proof.Sched
-- ==== Proof.Tables.lean ====
/- The kernel's two tables and its results at a time, over the extended reals: the knots, the heights of the running
   sum, the constants of the schedule, and the slot that a time reads. -/
module

public import proofs.«01_k».proof.Proof.Run
public import proofs.«01_k».proof.Proof.Read
public import Idealize.ShloMosaic.Lib.ValueIdxRank1

@[expose] public section

noncomputable section

namespace Cert.Proof.Sched

open Cert.KernelIdeal Cert.KernelIdeal.Gen

open Idealize.ShloMosaic Idealize.ShloMosaic.ValueIdx

/-! ## The constants -/

/-- The schedule's start. -/
def start : ℝ := word_start.choose
theorem start_word : Ideal.ofBits .f32 0x38D1B717#32 = (start : EReal) := word_start.choose_spec.1
theorem start_lo : 9e-5 < start := word_start.choose_spec.2.1
theorem start_hi : start < 1 := word_start.choose_spec.2.2
theorem start_pos : 0 < start := lt_trans (by norm_num) start_lo
/-- The stabilizer. -/
def eps : ℝ := word_eps.choose
theorem eps_word : Ideal.ofBits .f32 0x219392EF#32 = (eps : EReal) := word_eps.choose_spec.1
theorem eps_pos : 0 < eps := word_eps.choose_spec.2
/-- The start's logarithm and the logarithmic length. -/
def l0 : ℝ := Real.log start
def len : ℝ := Real.log 80 - Real.log start
theorem len_pos : 0 < len := sub_pos.mpr (Real.log_lt_log start_pos (by have := start_hi; linarith))
/-- A segment's length, stabilized. -/
def width : ℝ := 1 / 63 + eps
theorem width_pos : 0 < width := by have := eps_pos; unfold width; positivity

theorem lg0_at : (lg0 : Vec Ideal S_) ix0 = (l0 : EReal) := by
  show Ideal.log (Ideal.ofBits .f32 0x38D1B717#32) = _
  rw [start_word, log_pos start_pos]; rfl
theorem lgT_at : (lgT : Vec Ideal S_) ix0 = ((Real.log 80 : ℝ) : EReal) := by
  show Ideal.log (Ideal.ofBits .f32 0x42A00000#32) = _
  rw [word_80, log_pos (by norm_num)]
theorem gap_at : (gap : Vec Ideal S_) ix0 = (len : EReal) := by
  show (lgT : Vec Ideal S_) ix0 - (lg0 : Vec Ideal S_) ix0 = _
  rw [lgT_at, lg0_at, ← EReal.coe_sub]; rfl

/-- The knots are the fractions `i / 63`. -/
theorem knots_at (i : Fin 64) : (knots : Vec Ideal S64) (ix1 i) = ((i / 63 : ℝ) : EReal) := by
  have h := lin_at (N := 63) (M := 64) rfl (by norm_num) (by norm_num) 0x427C0000#32 (by rw [word_63]; norm_num)
    (constant S_ .f32 0x00000000#32) (constant S_ .f32 0x3F800000#32) (A := 0) (B := 1) Ideal.ofBits_zero_f32 word_one
    shapeCasts_S_S1 bcast_S1_S63_0 bcast_S_S63 bcast_S_S1 concatenates_S63_S1_S64_d0 i
  refine Eq.trans h ?_
  congr 1
  norm_num

/-- The host's splats and halves, read. -/
theorem one_at (a : Vec Ideal S_) (j : S1.Idx) : one a j = a ix0 := broadcastInDim_scalar_apply bcast_S_S1 a j
theorem all63_at (a : Vec Ideal S_) (j : S63.Idx) : all63 a j = a ix0 := broadcastInDim_scalar_apply bcast_S_S63 a j
theorem lo_at (x : Vec Ideal S64) (k : Fin 63) (i : Fin 64) (h : i.val = k.val) : lo x (ix1 k) = x (ix1 i) :=
  slice_at 0 x slices_S64_S63_0 k i (by omega)
theorem hi_at (x : Vec Ideal S64) (k : Fin 63) (j : Fin 64) (h : j.val = k.val + 1) : Sched.hi x (ix1 k) = x (ix1 j) :=
  slice_at 1 x slices_S64_S63_1 k j (by omega)

/-! ## The heights -/

/-- Every element is at most the fold of `max` over a list. -/
theorem le_fold_max {ι : Type} (x : ι → EReal) (l : List ι) (r : EReal) :
    r ≤ l.foldl (fun r i => max r (x i)) r ∧ ∀ i ∈ l, x i ≤ l.foldl (fun r i => max r (x i)) r := by
  induction l generalizing r with
  | nil => simp
  | cons a l ih =>
    have h := ih (max r (x a))
    refine ⟨(le_max_left _ _).trans h.1, fun i hi => ?_⟩
    rcases List.mem_cons.mp hi with rfl | hi
    · exact (le_max_right _ _).trans h.1
    · exact h.2 i hi

/-- The exponential of `a − b` with `a ≤ b` is a real that is not negative, at infinite `a` and `b` too. -/
theorem exp_sub_real {a b : EReal} (h : a ≤ b) : ∃ w : ℝ, 0 ≤ w ∧ Ideal.exp (a - b) = (w : EReal) := by
  rcases eq_or_ne b ⊤ with rfl | hb
  · exact ⟨0, le_rfl, by rw [EReal.sub_top]; rfl⟩
  have hle : a - b ≠ ⊤ := by
    intro e
    induction a using EReal.rec with
    | bot => rw [EReal.bot_sub] at e; exact bot_ne_top e
    | top => exact hb (top_le_iff.mp h)
    | coe a =>
      induction b using EReal.rec with
      | bot => exact absurd (le_bot_iff.mp h) (EReal.coe_ne_bot a)
      | top => exact hb rfl
      | coe b => exact EReal.coe_ne_top (a - b) (by rw [EReal.coe_sub]; exact e)
  generalize a - b = c at hle
  induction c using EReal.rec with
  | bot => exact ⟨0, le_rfl, rfl⟩
  | top => exact absurd rfl hle
  | coe c => exact ⟨Real.exp c, (Real.exp_pos c).le, rfl⟩

/-- The softmax's numerators are reals that are not negative, whatever the increments. -/
theorem weights_real (θ : Vec Ideal S63) : ∃ w : Fin 63 → ℝ, (∀ k, 0 ≤ w k) ∧ ∀ k, weights θ (ix1 k) = (w k : EReal) := by
  have h : ∀ k : Fin 63, ∃ w : ℝ, 0 ≤ w ∧ weights θ (ix1 k) = (w : EReal) := fun k => by
    refine exp_sub_real ?_
    rw [spread_at, one_at]
    refine le_trans ?_ (le_max_right _ _)
    rw [Host.reduce_eq_foldl]
    refine (le_fold_max θ _ _).2 _ (List.mem_filter.mpr ⟨?_, decide_eq_true (funext fun a => a.elim0)⟩)
    exact List.mem_map.mpr ⟨S63.rowMajor (ix1 k), List.mem_finRange _, Equiv.symm_apply_apply _ _⟩
  choose w h0 hw using h
  exact ⟨w, h0, hw⟩

/-- A sum of reals is the real sum. -/
theorem sum_real {n : ℕ} (w : Fin n → ℝ) : (∑ k, (w k : EReal)) = ((∑ k, w k : ℝ) : EReal) := by
  induction n with
  | zero => simp
  | succ n ih => rw [Fin.sum_univ_succ, Fin.sum_univ_succ, ih, EReal.coe_add]

/-- The softmax's entries are reals, or they are all ⊥ — where every numerator is 0. -/
theorem steps_cases (θ : Vec Ideal S63) :
    (∃ s : Fin 63 → ℝ, ∀ k, steps θ (ix1 k) = (s k : EReal)) ∨ ∀ k, steps θ (ix1 k) = ⊥ := by
  obtain ⟨w, h0, hw⟩ := weights_real θ
  have hs : ∀ k : Fin 63, steps θ (ix1 k) = Ideal.div (w k) ((∑ k, w k : ℝ) : EReal) := fun k => by
    unfold steps
    rw [hostDivf_apply, spread_at, one_at, hostReduceAdd_apply, hw,
      Ideal.hostReduceAdd_total _ fun b => b.elim0]
    congr 1
    rw [← Equiv.sum_comp (idxEquiv1 (n := 63)).symm, ← sum_real]
    refine Eq.trans ?_ (zero_add _)
    exact congrArg₂ (· + ·) Ideal.ofBits_zero_f32 (Finset.sum_congr rfl fun k _ => hw k)
  by_cases hz : ∑ k, w k = 0
  · refine Or.inr fun k => ?_
    have := (Finset.sum_eq_zero_iff_of_nonneg fun k _ => h0 k).mp hz k (Finset.mem_univ k)
    rw [hs, hz, this]
    simp [Ideal.div]
  · exact Or.inl ⟨fun k => w k / ∑ k, w k, fun k => by rw [hs, div_real hz]⟩

/-- A running sum of reals is real. -/
theorem fold_real {ι : Type} (g : ι → EReal) (h : ∀ n, ∃ a : ℝ, g n = a) (l : List ι) (r : ℝ) :
    ∃ a : ℝ, l.foldl (fun r n => r + g n) (r : EReal) = a := by
  induction l generalizing r with
  | nil => exact ⟨r, rfl⟩
  | cons n l ih =>
    obtain ⟨a, ha⟩ := h n
    rw [List.foldl_cons, ha, ← EReal.coe_add]
    exact ih _

/-- From ⊥ on a running sum stays ⊥. -/
theorem fold_bot {ι : Type} (g : ι → EReal) (l : List ι) : l.foldl (fun r n => r + g n) ⊥ = ⊥ := by
  induction l with
  | nil => rfl
  | cons n l ih => rw [List.foldl_cons, EReal.bot_add, ih]

/-- A sum with a term ⊥ is ⊥. -/
theorem fold_bot_of_mem {ι : Type} (g : ι → EReal) (l : List ι) (n : ι) (hn : n ∈ l) (h : g n = ⊥) (r : EReal) :
    l.foldl (fun r n => r + g n) r = ⊥ := by
  induction l generalizing r with
  | nil => simp at hn
  | cons a l ih =>
    rw [List.foldl_cons]
    rcases List.mem_cons.mp hn with rfl | hn
    · rw [h, EReal.add_bot, fold_bot]
    · exact ih hn _

/-- A sum of zeros is 0. -/
theorem fold_zero {ι : Type} (g : ι → EReal) (h : ∀ n, g n = 0) (l : List ι) : l.foldl (fun r n => r + g n) 0 = 0 := by
  induction l with
  | nil => rfl
  | cons n l ih => rw [List.foldl_cons, h, add_zero, ih]

/-- The term of the running sum at `k` that the window's place `p` gives: the entry `k + p − 63`, or 0 before the first. -/
def term (x : Vec Ideal S64) (k : Fin 64) (p : S64.Idx) : EReal :=
  if h : 63 ≤ k.val + (p 0).val then x (ix1 ⟨k.val + (p 0).val - 63, by have := (p 0).isLt; have : (p 0).val < 64 := this; omega⟩) else 0

/-- What the running sum runs over: 0 and the softmax. -/
abbrev terms (θ : Vec Ideal S63) : Vec Ideal S64 := join1 (one (constant (F := Ideal) S_ .f32 0x00000000#32)) (steps θ)

theorem heights_fold (θ : Vec Ideal S63) (k : Fin 64) : heights θ (ix1 k)
    = (List.finRange S64.numel).foldl (fun r n => r + term (terms θ) k (S64.rowMajor.symm n)) 0 := by
  have hz : (broadcastInDim S_ ![] bcast_S_S_ (constant (F := Ideal) S_ .f32 0x00000000#32)) (Shape.Idx.first h_S_) = 0 := by
    rw [broadcastInDim_scalar_apply]; exact Ideal.ofBits_zero_f32
  show Host.reduceWindow (· + ·) ![64] ![1] ![63] ![0] (terms θ) (fun _ : S_.Idx => (broadcastInDim S_ ![] bcast_S_S_
    (constant (F := Ideal) S_ .f32 0x00000000#32)) (Shape.Idx.first h_S_)) reduceWindows_S64_S64_w64s1p63_0 h_S_ (ix1 k) = _
  rw [hz]
  unfold Host.reduceWindow
  refine congrArg (fun f => List.foldl f (0 : EReal) (List.finRange S64.numel)) (funext fun r => funext fun n => congrArg (r + ·) ?_)
  have hp : ((S64.rowMajor.symm n) 0).val < 64 := ((S64.rowMajor.symm n) 0).isLt
  have hk := k.isLt
  unfold term
  by_cases h : 63 ≤ k.val + ((S64.rowMajor.symm n) 0).val
  · rw [dif_pos h, dif_pos]
    · refine congrArg (terms θ) (funext fun a => ?_)
      obtain rfl : a = 0 := Subsingleton.elim _ _
      refine Fin.ext ?_
      show k.val * 1 + ((S64.rowMajor.symm n) 0).val - 63 = k.val + ((S64.rowMajor.symm n) 0).val - 63
      rw [mul_one]
    · intro a
      obtain rfl : a = 0 := Subsingleton.elim _ _
      show 63 ≤ k.val * 1 + ((S64.rowMajor.symm n) 0).val ∧ k.val * 1 + ((S64.rowMajor.symm n) 0).val - 63 < 64
      omega
  · rw [dif_neg h, dif_neg]
    intro hc
    have : 63 ≤ k.val * 1 + ((S64.rowMajor.symm n) 0).val := (hc 0).1
    omega

theorem terms_zero (θ : Vec Ideal S63) (j : Fin 64) (h : j.val = 0) : terms θ (ix1 j) = 0 := by
  refine (join_left (one (constant (F := Ideal) S_ .f32 0x00000000#32)) (steps θ) concatenates_S1_S63_S64_d0 j 0 (by simp [h])).trans ?_
  rw [one_at]; exact Ideal.ofBits_zero_f32
theorem terms_succ (θ : Vec Ideal S63) (j : Fin 64) (k : Fin 63) (h : k.val + 1 = j.val) : terms θ (ix1 j) = steps θ (ix1 k) := by
  show join1 _ (steps θ) (ix1 j) = _
  exact join_right _ _ concatenates_S1_S63_S64_d0 j k h

/-- The heights are reals; or, where the softmax is ⊥, the first is 0 and the others are ⊥. -/
theorem heights_cases (θ : Vec Ideal S63) :
    (∃ y : Fin 64 → ℝ, ∀ k, heights θ (ix1 k) = (y k : EReal))
      ∨ ((∀ k : Fin 64, k.val = 0 → heights θ (ix1 k) = 0) ∧ ∀ k : Fin 64, k.val ≠ 0 → heights θ (ix1 k) = ⊥) := by
  rcases steps_cases θ with ⟨s, hs⟩ | hs
  · have ht : ∀ j : Fin 64, ∃ a : ℝ, terms θ (ix1 j) = a := fun j => by
      by_cases h : j.val = 0
      · exact ⟨0, terms_zero θ j h⟩
      · have := j.isLt
        exact ⟨_, (terms_succ θ j ⟨j.val - 1, by omega⟩ (by show j.val - 1 + 1 = j.val; omega)).trans (hs _)⟩
    have h : ∀ k : Fin 64, ∃ a : ℝ, heights θ (ix1 k) = a := fun k => by
      rw [heights_fold]
      refine fold_real _ (fun n => ?_) _ 0
      unfold term
      split
      · exact ht _
      · exact ⟨0, rfl⟩
    choose y hy using h
    exact Or.inl ⟨y, hy⟩
  · refine Or.inr ⟨fun k hk => ?_, fun k hk => ?_⟩
    · rw [heights_fold]
      refine fold_zero _ (fun n => ?_) _
      unfold term
      split
      · have : ((S64.rowMajor.symm n) 0).val < 64 := ((S64.rowMajor.symm n) 0).isLt
        exact terms_zero θ _ (by show k.val + ((S64.rowMajor.symm n) 0).val - 63 = 0; omega)
      · rfl
    · rw [heights_fold]
      refine fold_bot_of_mem _ _ (S64.rowMajor (ix1 63)) (List.mem_finRange _) ?_ _
      have hk' := k.isLt
      rw [Equiv.symm_apply_apply]
      unfold term
      rw [dif_pos (by show 63 ≤ k.val + 63; omega)]
      exact (terms_succ θ _ ⟨k.val - 1, by omega⟩ (by show k.val - 1 + 1 = k.val + 63 - 63; omega)).trans (hs _)

/-! ## The tables -/

variable (θ : Vec Ideal S63)

/-- A height by its number. -/
abbrev ht (j : Fin 64) : EReal := heights θ (ix1 j)

/-- The width of every segment. -/
theorem width_at (i j : Fin 64) (h : i.val + 1 = j.val) :
    ((knots : Vec Ideal S64) (ix1 j) - (knots : Vec Ideal S64) (ix1 i)) + Ideal.ofBits .f32 0x219392EF#32 = (width : EReal) := by
  rw [knots_at, knots_at, eps_word, ← h, ← EReal.coe_sub, ← EReal.coe_add]
  unfold width
  congr 1
  push_cast
  ring

theorem slopes_at (k : Fin 63) (i j : Fin 64) (hi : i.val = k.val) (hj : j.val = k.val + 1) :
    slopes θ (ix1 k) = Ideal.div (ht θ j - ht θ i) width := by
  unfold slopes
  rw [hostDivf_apply, subf_apply, addf_apply, subf_apply, hi_at _ k j hj, lo_at _ k i hi, hi_at _ k j hj,
    lo_at _ k i hi, all63_at]
  exact congrArg (Ideal.div _) (width_at i j (by omega))

/-- A led table's entries are one behind. -/
theorem led_at (a : Vec Ideal S63) (j : Fin 64) (k : Fin 63) (h : k.val + 1 = j.val) : led a (ix1 j) = a (ix1 k) :=
  join_right _ _ concatenates_S1_S63_S64_d0 j k h

theorem ledA_at (i j : Fin 64) (h : i.val + 1 = j.val) :
    led (segA θ) (ix1 j) = (len : EReal) * Ideal.div (ht θ j - ht θ i) width := by
  have := j.isLt
  rw [led_at _ j ⟨i.val, by omega⟩ h]
  unfold segA
  rw [mulf_apply, all63_at, gap_at, slopes_at θ _ i j rfl h.symm]

theorem ledB_at (i j : Fin 64) (h : i.val + 1 = j.val) : led (segB θ) (ix1 j)
    = (l0 : EReal) + len * (ht θ i - ((i / 63 : ℝ) : EReal) * Ideal.div (ht θ j - ht θ i) width) := by
  have := j.isLt
  rw [led_at _ j ⟨i.val, by omega⟩ h]
  unfold segB
  rw [addf_apply, mulf_apply, subf_apply, mulf_apply, all63_at, all63_at, gap_at, lg0_at,
    slopes_at θ _ i j rfl h.symm, lo_at _ _ i rfl, lo_at _ _ i rfl, knots_at]

end Cert.Proof.Sched
-- ==== Proof.Slot.lean ====
/- The slot a time reads: the kernel truncates 63 times the time and adds one, the reference counts the knots below the
   time; clipped to 1 … 63 the two agree, off the knots between 0 and 1. -/
module

public import proofs.«01_k».proof.Proof.Tables

@[expose] public section

noncomputable section

namespace Cert.Proof.Sched

open Cert.KernelIdeal Cert.KernelIdeal.Gen

open Idealize.ShloMosaic Idealize.ShloMosaic.ValueIdx

/-- How many knots lie below the time `t`. -/
def below (t : ℝ) : ℕ := (Finset.univ.filter fun k : Fin 64 => ((k.val / 63 : ℝ)) < t).card

/-- The first `f + 1` of 64 numbers. -/
theorem card_upto (f : ℕ) (hf : f < 64) : (Finset.univ.filter fun k : Fin 64 => k.val ≤ f).card = f + 1 := by
  have : (Finset.univ.filter fun k : Fin 64 => k.val ≤ f) = Finset.Iic (⟨f, hf⟩ : Fin 64) := by
    ext k; simp [Fin.le_def]
  rw [this, Fin.card_Iic]

/-- The slot as a number: clipped, the truncation of 63 `t` and one, and the count of knots below `t`, agree. -/
theorem slot_number (t : ℝ) (h : 63 * t ≤ 0 ∨ 63 ≤ 63 * t ∨ ((⌊63 * t⌋ : ℤ) : ℝ) ≠ 63 * t) :
    min (63 : ℤ) (max 1 ((if 0 ≤ 63 * t then ⌊63 * t⌋ else ⌈63 * t⌉) + 1)) = min 63 (max 1 (below t : ℤ)) := by
  rcases le_or_gt (63 * t) 0 with h0 | h0
  · have e : below t = 0 := by
      refine Finset.card_eq_zero.mpr (Finset.filter_eq_empty_iff.mpr fun k _ => not_lt.mpr ?_)
      have : (0 : ℝ) ≤ k.val / 63 := by positivity
      linarith
    have e' : (if 0 ≤ 63 * t then ⌊63 * t⌋ else ⌈63 * t⌉) ≤ 0 := by
      split
      · have : 63 * t = 0 := le_antisymm h0 (by assumption)
        rw [this]; simp
      · exact Int.ceil_le.mpr (by simpa using h0)
    rw [e]
    generalize (if 0 ≤ 63 * t then ⌊63 * t⌋ else ⌈63 * t⌉) = z at e'
    omega
  rw [if_pos h0.le]
  rcases le_or_gt 63 (63 * t) with h1 | h1
  · have e : 63 ≤ below t := by
      refine (card_upto 62 (by norm_num)).symm.le.trans (Finset.card_le_card (Finset.monotone_filter_right _ fun k _ hk => ?_))
      have hk' : (k.val : ℝ) ≤ 62 := by exact_mod_cast hk
      show (k.val / 63 : ℝ) < t
      rw [div_lt_iff₀ (by norm_num)]
      linarith
    have e' : (63 : ℤ) ≤ ⌊63 * t⌋ := Int.le_floor.mpr (by exact_mod_cast h1)
    omega
  · have hn : ((⌊63 * t⌋ : ℤ) : ℝ) ≠ 63 * t := h.resolve_left (not_le.mpr h0) |>.resolve_left (not_le.mpr h1)
    obtain ⟨f, hf⟩ := Int.eq_ofNat_of_zero_le (Int.floor_nonneg.mpr h0.le)
    have hlt : ((⌊63 * t⌋ : ℤ) : ℝ) < 63 * t := lt_of_le_of_ne (Int.floor_le _) hn
    have hup := Int.lt_floor_add_one (63 * t)
    rw [hf] at hlt hup
    have hf' : f < 63 := by
      have : (f : ℝ) < 63 := lt_trans (by exact_mod_cast hlt) h1
      exact_mod_cast this
    have e : below t = f + 1 := by
      rw [← card_upto f (by omega)]
      refine congrArg Finset.card (Finset.filter_congr fun k _ => ?_)
      rw [div_lt_iff₀ (by norm_num)]
      constructor
      · intro hk
        have : (k.val : ℝ) < f + 1 := by push_cast at hup; linarith
        have : k.val < f + 1 := by exact_mod_cast this
        omega
      · intro hk
        have : (k.val : ℝ) ≤ f := by exact_mod_cast hk
        push_cast at hlt; linarith
    rw [hf, e]
    push_cast
    rfl

/-- A time with a knot below it is positive. -/
theorem below_pos {t : ℝ} (h : 1 < below t) : 0 < t := by
  by_contra hn
  have : below t = 0 := by
    refine Finset.card_eq_zero.mpr (Finset.filter_eq_empty_iff.mpr fun k _ => not_lt.mpr ?_)
    have : (0 : ℝ) ≤ k.val / 63 := by positivity
    linarith
  omega

/-- The kernel's slot at a time in range, off the inner knots. -/
theorem slot_at (t : ℝ) (hlo : -5 ≤ t) (hhi : t ≤ 10000000)
    (h : 63 * t ≤ 0 ∨ 63 ≤ 63 * t ∨ ((⌊63 * t⌋ : ℤ) : ℝ) ≠ 63 * t) (k : ℕ) (hk : (k : ℤ) = min 63 (max 1 (below t : ℤ))) :
    slot (F := Ideal) (t : EReal) = BitVec.ofNat 32 k := by
  have e : slot (F := Ideal) (t : EReal) = IntOp.minsi (BitVec.ofNat 32 63) (IntOp.maxsi 1#32
      (Ideal.fptosi 32 ((t : EReal) * Ideal.ofBits .f32 0x427C0000#32) + 1#32)) := rfl
  have hu : -315 ≤ 63 * t := by linarith
  have hv : 63 * t ≤ 630000000 := by linarith
  rw [e, word_63, ← EReal.coe_mul, mul_comm t 63]
  refine clip_at 63 (by norm_num) _ k ?_
  rw [hk, ← slot_number t h, Ideal.fptosi, Ideal.toIntClamped_coe]
  have hb : -315 ≤ (if 0 ≤ 63 * t then ⌊63 * t⌋ else ⌈63 * t⌉) ∧ (if 0 ≤ 63 * t then ⌊63 * t⌋ else ⌈63 * t⌉) ≤ 630000000 := by
    have f1 : -315 ≤ ⌊63 * t⌋ := Int.le_floor.mpr (by exact_mod_cast hu)
    have f2 : ⌈63 * t⌉ ≤ 630000000 := Int.ceil_le.mpr (by exact_mod_cast hv)
    have f3 := Int.floor_le_ceil (63 * t)
    split <;> omega
  generalize (if 0 ≤ 63 * t then ⌊63 * t⌋ else ⌈63 * t⌉) = z at hb
  have ez : max (-((2 ^ (32 - 1) : ℕ) : ℤ)) (min (((2 ^ (32 - 1) : ℕ) : ℤ) - 1) z) = z := by norm_num; omega
  have e1 : (BitVec.ofInt 32 z + 1#32).toInt = z + 1 := by
    rw [BitVec.toInt_add, BitVec.toInt_ofInt, show (1#32 : BitVec 32).toInt = 1 by decide, Int.bmod_def, Int.bmod_def]
    omega
  rw [ez, e1]
  rfl

end Cert.Proof.Sched
-- ==== Proof.Reference.lean ====
/- The reference's results at one time, over the extended reals: its schedule is linear, so inverting the schedule's
   value gives the time back, and its two results are the kernel's. -/
module

public import proofs.«01_k».proof.Proof.Slot
public import proofs.«01_k».proof.Proof.Gen.ReferenceIdeal.Run

@[expose] public section

set_option maxRecDepth 8192

noncomputable section

namespace Cert.Proof.Sched

open Cert.ReferenceIdeal Cert.ReferenceIdeal.Gen Cert.ReferenceIdeal.Value

open Idealize.ShloMosaic Idealize.ShloMosaic.ValueIdx Idealize.ShloMosaic.TcCoe

/-- The logarithm's floor. -/
def least : ℝ := word_floor.choose
theorem least_word : Ideal.ofBits .f32 0x006CE3EE#32 = (least : EReal) := word_floor.choose_spec.1
theorem least_lt : least < 1e-37 := word_floor.choose_spec.2

variable (V0 : Valuation τ sig (Elt Ideal))

/-- The times and the increments. -/
abbrev argT : FVec Ideal (D1 8388608) .f32 := V0 (Proc.devRef .tc main_arg0)
abbrev argθ : Vec Ideal (D1 63) := V0 (Proc.devRef .tc main_arg1)

/-! ## The reference's tables -/

theorem knots_eq : res_main_v4 V0 = (knots : Vec Ideal (D1 64)) := rfl
theorem heights_eq : res_main_v73 V0 = heights (argθ V0) := rfl

/-- The schedule's times `k / 1023`. -/
theorem times_at (k : Fin 1024) : (res_main_v0 V0 : FVec Ideal (D1 1024) .f32) (ix1 k) = ((k / 1023 : ℝ) : EReal) := by
  have h := lin_at (N := 1023) (M := 1024) rfl (by norm_num) (by norm_num) 0x447FC000#32 (by rw [word_1023]; norm_num)
    (constant S_ .f32 0x00000000#32) (constant S_ .f32 0x3F800000#32) (A := 0) (B := 1) Ideal.ofBits_zero_f32 word_one
    shapeCasts_S_S1 bcast_S1_S1023_0 bcast_S_S1023 bcast_S_S1 concatenates_S1023_S1_S1024_d0 k
  refine Eq.trans h ?_
  congr 1
  norm_num

/-- The schedule's logarithms. -/
theorem logs_at (k : Fin 1024) : (res_main_v3 V0 : FVec Ideal (D1 1024) .f32) (ix1 k) = ((l0 + len * (k / 1023) : ℝ) : EReal) := by
  have h := lin_at (N := 1023) (M := 1024) rfl (by norm_num) (by norm_num) 0x447FC000#32 (by rw [word_1023]; norm_num)
    (res_main_v1 V0) (res_main_v2 V0) (A := l0) (B := Real.log 80) lg0_at lgT_at
    shapeCasts_S_S1 bcast_S1_S1023_0 bcast_S_S1023 bcast_S_S1 concatenates_S1023_S1_S1024_d0 k
  refine Eq.trans h ?_
  congr 1

/-! ## The indices -/

/-- A vector of reals, and one of words, at an index. -/
abbrev fl (x : (D1 8388608).Idx → EReal) (i : Fin 8388608) : EReal := x (ix1 i)
abbrev wd (x : (D1 8388608).Idx → BitVec 32) (i : Fin 8388608) : BitVec 32 := x (ix1 i)

variable (i : Fin 8388608)

theorem clip_exists (n : ℕ) (hn : n + 1 < 2 ^ 31) (w : BitVec 32) :
    ∃ k : ℕ, k ≤ n ∧ IntOp.minsi (BitVec.ofNat 32 (n + 1)) (IntOp.maxsi 1#32 w) = BitVec.ofNat 32 (k + 1) :=
  ⟨(min (n : ℤ) (max 0 (w.toInt - 1))).toNat, by omega, clip_at (n + 1) hn w _ (by push_cast; omega)⟩

/-- A vector of words clipped to 1 … 1023. -/
theorem clip1023 (x : IVec (D1 8388608) 32) : ∃ k : ℕ, k ≤ 1022 ∧ wd (minsi (broadcastInDim S8388608 ![] bcast_S_S8388608
    (id (constantI S_ 32 1023#32))) (maxsi (broadcastInDim S8388608 ![] bcast_S_S8388608 (id (constantI S_ 32 1#32))) x)) i
      = BitVec.ofNat 32 (k + 1) := clip_exists 1022 (by norm_num) (wd x i)

/-- A count of at most 64 clipped to 1 … 63. -/
theorem clip63 (x : IVec (D1 8388608) 32) (c k : ℕ) (hc : c ≤ 64) (hx : wd x i = BitVec.ofNat 32 c)
    (hk : (k : ℤ) = min 63 (max 1 (c : ℤ))) : wd (minsi (broadcastInDim S8388608 ![] bcast_S_S8388608
    (id (constantI S_ 32 63#32))) (maxsi (broadcastInDim S8388608 ![] bcast_S_S8388608 (id (constantI S_ 32 1#32))) x)) i
      = BitVec.ofNat 32 k := by
  refine clip_at 63 (by norm_num) (wd x i) k ?_
  rw [hk, hx, BitVec.toInt_ofNat', Int.bmod_def]
  omega

/-- One less than a positive word. -/
theorem pred_at (x : IVec (D1 8388608) 32) (k : ℕ) (h : wd x i = BitVec.ofNat 32 (k + 1)) :
    wd (subi x (broadcastInDim S8388608 ![] bcast_S_S8388608 (constantI S_ 32 1#32))) i = BitVec.ofNat 32 k :=
  (congrArg (· - 1#32) h).trans (by rw [BitVec.ofNat_add, BitVec.add_sub_cancel])

/-- A table of 1024, and one of 64, read at indices in range. -/
theorem read1024 (x : FVec Ideal (D1 1024) .f32) (v : IVec (D1 8388608) 32) (k : Fin 1024) (hv : wd v i = BitVec.ofNat 32 k.val) :
    fl (Host.gather gather_S1024_S8388608x1_S8388608_n_0_n_n_0_1_1 x (broadcastInDim S8388608x1 ![0] bcast_S8388608_S8388608x1_0
      (select (cmpi .slt v (broadcastInDim S8388608 ![] bcast_S_S8388608 (constantI S_ 32 0#32)))
        (addi v (broadcastInDim S8388608 ![] bcast_S_S8388608 (constantI S_ 32 1024#32))) v))) i = x (ix1 k) :=
  read_at (by norm_num) (by norm_num) _ x v 1024#32 _ _ i k hv
theorem read64 (x : FVec Ideal (D1 64) .f32) (v : IVec (D1 8388608) 32) (k : Fin 64) (hv : wd v i = BitVec.ofNat 32 k.val) :
    fl (Host.gather gather_S64_S8388608x1_S8388608_n_0_n_n_0_1_1 x (broadcastInDim S8388608x1 ![0] bcast_S8388608_S8388608x1_0
      (select (cmpi .slt v (broadcastInDim S8388608 ![] bcast_S_S8388608 (constantI S_ 32 0#32)))
        (addi v (broadcastInDim S8388608 ![] bcast_S_S8388608 (constantI S_ 32 64#32))) v))) i = x (ix1 k) :=
  read_at (by norm_num) (by norm_num) _ x v 64#32 _ _ i k hv

/-! ## The float operations, each at one index -/

section Pointwise
variable {a b c d e : FVec Ideal (D1 8388608) .f32} {u v : FVec Ideal D0 .f32} {A B C D E U W : EReal}

/-- A scalar spread over the times. -/
abbrev wide (u : FVec Ideal D0 .f32) : FVec Ideal (D1 8388608) .f32 := broadcastInDim S8388608 ![] bcast_S_S8388608 u

theorem wide_at (hu : u ix0 = U) : fl (wide u) i = U := hu ▸ broadcastInDim_scalar_apply _ u _

variable (ha : fl a i = A) (hb : fl b i = B) (hc : fl c i = C) (hd : fl d i = D) (he : fl e i = E) (hu : u ix0 = U) (hv : v ix0 = W)

include ha hb hc hd in
theorem slope_form : fl (Host.divf (subf a b) (subf c d)) i = Ideal.div (A - B) (C - D) := by
  subst ha hb hc hd; rfl
include ha hb hc hd in
theorem clock_form : fl (Host.exp (addf a (mulf b (subf c d)))) i = Ideal.exp (A + B * (C - D)) := by
  subst ha hb hc hd; rfl
include hu hv in
theorem inverse_form (w : BitVec 32) (ha : max (fl a i) (Ideal.ofBits .f32 w) = A) :
    fl (Host.divf (subf (Host.log (maximumf a (wide (constant D0 .f32 w)))) (wide u)) (wide v)) i
      = Ideal.div (Ideal.log A - U) W := by
  rw [← wide_at i hu, ← wide_at i hv, ← ha]; rfl
include ha hb in
theorem width_form (w : BitVec 32) : fl (addf (subf a b) (wide (constant D0 .f32 w))) i = A - B + Ideal.ofBits .f32 w := by
  subst ha hb; rfl
include ha hb hc hd he hu hv in
theorem first_form : fl (Host.exp (addf (wide u) (mulf (wide v) (addf a (mulf (Host.divf (subf b c) d) (subf e a)))))) i
    = Ideal.exp (U + W * (A + Ideal.div (B - C) D * (E - A))) := by
  rw [← wide_at i hu, ← wide_at i hv]; subst ha hb hc hd he; rfl
include ha hb hc hd he in
theorem factor_form (w : BitVec 32) (hf : max (fl d i) (Ideal.ofBits .f32 w) = U) :
    fl (mulf (Host.divf (subf a b) c) (Host.divf (mulf d e) (maximumf d (wide (constant D0 .f32 w))))) i
      = Ideal.div (A - B) C * Ideal.div (D * E) U := by
  subst ha hb hc hd he hf; rfl

end Pointwise

/-! ## The schedule at a time -/

/-- The slope over a segment of the schedule. -/
theorem slope_arith (k : ℕ) : Ideal.div (((l0 + len * ((k + 1 : ℕ) / 1023) : ℝ) : EReal) - ((l0 + len * (k / 1023) : ℝ) : EReal))
    ((((k + 1 : ℕ) / 1023 : ℝ) : EReal) - ((k / 1023 : ℝ) : EReal)) = (len : EReal) := by
  have e : (((k + 1 : ℕ) / 1023 : ℝ)) - k / 1023 = 1 / 1023 := by push_cast; ring
  have e' : (l0 + len * ((k + 1 : ℕ) / 1023)) - (l0 + len * (k / 1023)) = len * (1 / 1023) := by push_cast; ring
  rw [← EReal.coe_sub, ← EReal.coe_sub, e, e', div_real (by norm_num)]
  congr 1
  norm_num

/-- A point of the line through a knot of the schedule. -/
theorem clock_arith (x t : ℝ) : Ideal.exp (((l0 + len * x : ℝ) : EReal) + (len : EReal) * ((t : EReal) - (x : EReal)))
    = ((Real.exp (l0 + len * t) : ℝ) : EReal) := by
  rw [← EReal.coe_sub, ← EReal.coe_mul, ← EReal.coe_add, exp_real]
  congr 2
  ring

/-- A value times the length, over the value. -/
theorem ratio_arith (r : ℝ) (h : r ≠ 0) : Ideal.div ((r : EReal) * (len : EReal)) (r : EReal) = (len : EReal) := by
  rw [← EReal.coe_mul, div_real h, mul_div_cancel_left₀ _ h]

/-- The schedule's segment is one of the 1023. -/
theorem segment_at : ∃ k : ℕ, k ≤ 1022 ∧ wd (res_main_v13 V0) i = BitVec.ofNat 32 (k + 1) := clip1023 i _

variable (t : ℝ) (hT : fl (argT V0) i = (t : EReal))
include hT

/-- The schedule's slope is the same over every segment, and its value at `t` is `exp (l0 + len t)`. -/
theorem clock_at : fl (res_main_v48 V0) i = (len : EReal) ∧ fl (res_main_v52 V0) i = ((Real.exp (l0 + len * t) : ℝ) : EReal) := by
  obtain ⟨k, hk, hv⟩ := segment_at V0 i
  have hw : wd (res_main_v15 V0) i = BitVec.ofNat 32 k := pred_at i _ k hv
  have hw' : wd (res_main_v31 V0) i = BitVec.ofNat 32 k := pred_at i _ k hv
  have a0 : fl (res_main_v22 V0) i = ((l0 + len * (k / 1023) : ℝ) : EReal) :=
    (read1024 i _ _ ⟨k, by omega⟩ hw).trans (logs_at V0 _)
  have b0 : fl (res_main_v38 V0) i = ((k / 1023 : ℝ) : EReal) :=
    (read1024 i _ _ ⟨k, by omega⟩ hw').trans (times_at V0 _)
  have s : fl (res_main_v48 V0) i = (len : EReal) := by
    refine (slope_form i ((read1024 i _ _ ⟨k + 1, by omega⟩ hv).trans (logs_at V0 _)) a0
      ((read1024 i _ _ ⟨k + 1, by omega⟩ hv).trans (times_at V0 _)) b0).trans ?_
    exact slope_arith k
  refine ⟨s, (clock_form i a0 s hT b0).trans ?_⟩
  exact clock_arith (k / 1023) t

variable (hlo : -5 ≤ t)
include hlo

/-- The value, kept off the floor, is the value. -/
theorem kept_at : max (fl (res_main_v52 V0) i) (Ideal.ofBits .f32 0x006CE3EE#32) = ((Real.exp (l0 + len * t) : ℝ) : EReal) := by
  refine (congrArg₂ max (clock_at V0 i t hT).2 least_word).trans ?_
  exact max_eq_left (EReal.coe_le_coe_iff.mpr (clock_floor start_lo start_hi least_lt hlo))

/-- The inverse of the schedule gives the time back. -/
theorem inverse_at : fl (res_main_v60 V0) i = (t : EReal) := by
  refine (inverse_form i lg0_at gap_at _ (kept_at V0 i t hT hlo)).trans ?_
  rw [log_pos (Real.exp_pos _), Real.log_exp, ← EReal.coe_sub, div_real len_pos.ne']
  congr 1
  have := len_pos.ne'
  field_simp
  ring

/-- The slot, as the clipped count of the knots below the time. -/
theorem found_at (k : ℕ) (hk : (k : ℤ) = min 63 (max 1 (below t : ℤ))) : wd (res_main_v81 V0) i = BitVec.ofNat 32 k := by
  refine clip63 i _ (below t) k ((Finset.card_le_univ _).trans (by simp)) ?_ hk
  exact count_at (by norm_num) (by norm_num) (res_main_v4 V0) (res_main_v60 V0) _ _ _ _ _ _ (by decide) _ i _ fun k =>
    (iff_of_eq (congrArg₂ (· < ·) (knots_at k) (inverse_at V0 i t hT hlo))).trans EReal.coe_lt_coe_iff

/-! ## The results -/

/-- The four entries the reference reads of its tables, at the segment that ends in the knot `j`. -/
theorem entries_at (h j : Fin 64) (hj : h.val + 1 = j.val) (hk : (j.val : ℤ) = min 63 (max 1 (below t : ℤ))) :
    fl (res_main_v90 V0) i = ((h / 63 : ℝ) : EReal) ∧ fl (res_main_v106 V0) i = ht (argθ V0) h
      ∧ fl (res_main_v113 V0) i = ht (argθ V0) j ∧ fl (res_main_v116 V0) i = (width : EReal) := by
  have hv := found_at V0 i t hT hlo j.val hk
  have hv' : wd (res_main_v81 V0) i = BitVec.ofNat 32 (h.val + 1) := by rw [hj, hv]
  have x0 : fl (res_main_v90 V0) i = (knots : Vec Ideal (D1 64)) (ix1 h) := read64 i _ _ h (pred_at i _ h.val hv')
  refine ⟨x0.trans (knots_at h), read64 i _ _ h (pred_at i _ h.val hv'), read64 i _ _ j hv, ?_⟩
  exact (width_form i (read64 i (res_main_v4 V0) _ j hv) x0 _).trans (width_at h j hj)

/-- The first result at a time, as the reference computes it over the segment from the knot `h` to the knot `j`. -/
def want (θ : Vec Ideal (D1 63)) (h j : Fin 64) (t : ℝ) : EReal :=
  Ideal.exp ((l0 : EReal) + len * (ht θ h + Ideal.div ((t : EReal) - ((h / 63 : ℝ) : EReal)) width * (ht θ j - ht θ h)))

/-- The reference's first result. -/
theorem first_at (h j : Fin 64) (hj : h.val + 1 = j.val) (hk : (j.val : ℤ) = min 63 (max 1 (below t : ℤ))) :
    fl (Host.exp (addf (wide (res_main_v1 V0)) (mulf (wide (res_main_v5 V0)) (addf (res_main_v106 V0) (mulf (Host.divf
      (subf (res_main_v60 V0) (res_main_v90 V0)) (res_main_v116 V0)) (subf (res_main_v113 V0) (res_main_v106 V0))))))) i
      = want (argθ V0) h j t := by
  obtain ⟨e1, e2, e3, e4⟩ := entries_at V0 i t hT hlo h j hj hk
  exact first_form i e2 (inverse_at V0 i t hT hlo) e1 e4 e3 lg0_at gap_at

/-- What the reference multiplies its first result by to get the second. -/
theorem factor_at (h j : Fin 64) (hj : h.val + 1 = j.val) (hk : (j.val : ℤ) = min 63 (max 1 (below t : ℤ))) :
    fl (mulf (Host.divf (subf (res_main_v113 V0) (res_main_v106 V0)) (res_main_v116 V0)) (Host.divf (mulf (res_main_v52 V0)
      (res_main_v48 V0)) (maximumf (res_main_v52 V0) (wide (constant S_ .f32 0x006CE3EE#32))))) i
      = Ideal.div (ht (argθ V0) j - ht (argθ V0) h) width * (len : EReal) := by
  obtain ⟨e1, e2, e3, e4⟩ := entries_at V0 i t hT hlo h j hj hk
  obtain ⟨c1, c2⟩ := clock_at V0 i t hT
  refine (factor_form i e3 e2 e4 c2 c1 _ (kept_at V0 i t hT hlo)).trans (congrArg₂ (· * ·) rfl ?_)
  exact ratio_arith _ (Real.exp_pos _).ne'

end Cert.Proof.Sched
-- ==== Proof.Value.lean ====
/- The two results agree, over the extended reals: at every time in range and off the knots, the line that the kernel
   reads of its tables is the reference's piecewise linear schedule of the same segment. -/
module

public import proofs.«01_k».proof.Proof.Reference
public import proofs.«01_k».proof.Proof.Run
public import proofs.«01_k».proof.Pre_in_range_off_knots
public import Idealize.ShloMosaic.Lib.ReduceAll

@[expose] public section

set_option maxRecDepth 8192

noncomputable section

namespace Cert.Proof.Sched

open Idealize.ShloMosaic Idealize.ShloMosaic.ValueIdx

/-! ## What the precondition says of a time -/

/-- A time in range, where the scaled time is off the inner knots. -/
def Good (t : ℝ) : Prop :=
  -5 ≤ t ∧ t ≤ 10000000 ∧ (63 * t ≤ 0 ∨ 63 ≤ 63 * t ∨ ((⌊63 * t⌋ : ℤ) : ℝ) ≠ 63 * t)

/-- The precondition's comparisons at one time, as comparisons of extended reals. -/
theorem good_of (x : EReal) (hlo : ((-5 : ℝ) : EReal) ≤ x) (hhi : x ≤ ((10000000 : ℝ) : EReal))
    (h : (x * ((63 : ℝ) : EReal) ≤ 0 ∨ ((63 : ℝ) : EReal) ≤ x * ((63 : ℝ) : EReal))
      ∨ Ideal.liftRound Int.floor (x * ((63 : ℝ) : EReal)) ≠ x * ((63 : ℝ) : EReal)) : ∃ t : ℝ, x = t ∧ Good t := by
  induction x with
  | bot => exact absurd hlo (not_le.mpr (EReal.bot_lt_coe _))
  | top => exact absurd hhi (not_le.mpr (EReal.coe_lt_top _))
  | coe t =>
    rw [← EReal.coe_mul, mul_comm t 63] at h
    refine ⟨t, rfl, EReal.coe_le_coe_iff.mp hlo, EReal.coe_le_coe_iff.mp hhi, ?_⟩
    rcases h with (h | h) | h
    · exact Or.inl (EReal.coe_nonpos.mp h)
    · exact Or.inr (Or.inl (EReal.coe_le_coe_iff.mp h))
    · exact Or.inr (Or.inr fun e => h (congrArg (fun r : ℝ => (r : EReal)) e))

/-- An array of which the precondition holds has only good times. -/
theorem good_at [Cert.Pre_in_range_off_knots.Facts] (T : FVec Ideal (D1 8388608) .f32) (θ : FVec Ideal (D1 63) .f32)
    (h : Cert.Pre_in_range_off_knots.fn (F := Ideal) T θ = fun _ => 1#1) (i : (D1 8388608).Idx) : ∃ t : ℝ, T i = t ∧ Good t := by
  haveI : Subsingleton Cert.Pre_in_range_off_knots.S_.Idx := ⟨fun a b => funext fun k => k.elim0⟩
  have e := Host.reduce_andi_all _ _ _ _ (fun k => k.elim0) (congrFun h fun k => k.elim0) i
  obtain ⟨e1, e2⟩ := IntOp.andi_eq_one.mp e
  obtain ⟨elo, ehi⟩ := IntOp.andi_eq_one.mp e1
  have lo' := (bit_iff (Ideal.ofBits .f32 0xC0A00000#32 ≤ T i)).mp elo
  have hi' := (bit_iff (T i ≤ Ideal.ofBits .f32 0x4B189680#32)).mp ehi
  rw [word_low] at lo'
  rw [word_high] at hi'
  refine good_of (T i) lo' hi' ?_
  rw [← word_63, ← Ideal.ofBits_zero_f32]
  rcases IntOp.ori_eq_one.mp e2 with e3 | e3
  · rcases IntOp.ori_eq_one.mp e3 with e4 | e4
    · exact Or.inl (Or.inl ((bit_iff _).mp e4))
    · exact Or.inl (Or.inr ((bit_iff _).mp e4))
  · exact Or.inr ((bit_iff _).mp e3)

/-! ## The kernel's results at a time -/

/-- The segment of a time: its two knots. -/
theorem segment_exists (t : ℝ) : ∃ h j : Fin 64, h.val + 1 = j.val ∧ (j.val : ℤ) = min 63 (max 1 (below t : ℤ)) :=
  ⟨⟨(min 63 (max 1 (below t : ℤ))).toNat - 1, by omega⟩, ⟨(min 63 (max 1 (below t : ℤ))).toNat, by omega⟩, by
    show (min 63 (max 1 (below t : ℤ))).toNat - 1 + 1 = (min 63 (max 1 (below t : ℤ))).toNat
    omega, by
    show (((min 63 (max 1 (below t : ℤ))).toNat : ℕ) : ℤ) = _
    omega⟩

/-- The exponential of a line, from the line's two coefficients. -/
theorem gwOf_line (t a b : EReal) : gwOf (F := Ideal) t a b = Ideal.exp (b + a * t) := rfl

/-- The exponential of a line times its slope. -/
theorem gdOf_line (t a b : EReal) : gdOf (F := Ideal) t a b = gwOf (F := Ideal) t a b * a := rfl

/-- The first result, from the two tables' entries at a time's slot. -/
theorem gw_line (A B : (D1 64).Idx → EReal) (t : EReal) (j : Fin 64) (e : slotIx (F := Ideal) t = ix1 j) :
    gw (F := Ideal) A B t = Ideal.exp (B (ix1 j) + A (ix1 j) * t) :=
  (congrArg (fun k => gwOf (F := Ideal) t (A k) (B k)) e).trans (gwOf_line t _ _)

/-- The second result, from the first and the slope's entry at a time's slot. -/
theorem gd_line (A B : (D1 64).Idx → EReal) (t : EReal) (j : Fin 64) (e : slotIx (F := Ideal) t = ix1 j) :
    gd (F := Ideal) A B t = gw (F := Ideal) A B t * A (ix1 j) :=
  (gdOf_line t _ _).trans (congrArg (fun k => gw (F := Ideal) A B t * A k) e)

variable (θ : FVec Ideal (D1 63) .f32) (t : ℝ) (ok : Good t) (h j : Fin 64) (hj : h.val + 1 = j.val)
  (hk : (j.val : ℤ) = min 63 (max 1 (below t : ℤ)))
include ok hj hk

/-- The kernel reads its tables at the segment's end. -/
theorem slotIx_at : slotIx (F := Ideal) (t : EReal) = ix1 j := by
  have e := slot_at t ok.1 ok.2.1 ok.2.2 j.val hk
  funext a
  refine Fin.ext ?_
  have ea : a = 0 := Subsingleton.elim _ _
  subst ea
  show (slot (F := Ideal) (t : EReal)).toNat = j.val
  rw [e]
  exact Nat.mod_eq_of_lt (by omega)

/-- The heights at the segment's two knots: real, or at or past the start of the part where every height is `⊥`. -/
theorem ends_cases : (∃ a b : ℝ, ht θ h = a ∧ ht θ j = b) ∨ (ht θ h = 0 ∧ ht θ j = ⊥ ∧ ((h / 63 : ℝ)) = 0)
    ∨ (ht θ h = ⊥ ∧ ht θ j = ⊥ ∧ 0 < ((h / 63 : ℝ)) ∧ 0 < t) := by
  rcases heights_cases θ with ⟨y, hy⟩ | ⟨h0, hb⟩
  · exact Or.inl ⟨y h, y j, hy h, hy j⟩
  · by_cases hz : h.val = 0
    · exact Or.inr (Or.inl ⟨h0 h hz, hb j (by omega), by rw [hz]; norm_num⟩)
    · have hp : (0 : ℝ) < h.val := by exact_mod_cast Nat.pos_of_ne_zero hz
      exact Or.inr (Or.inr ⟨hb h hz, hb j (by omega), by positivity, below_pos (by omega)⟩)

/-- The kernel's first result is the reference's. -/
theorem out1_at : out1 (F := Ideal) θ (t : EReal) = want θ h j t := by
  refine (gw_line _ _ _ _ (slotIx_at t ok h j hj hk)).trans ?_
  rw [ledA_at θ h j hj, ledB_at θ h j hj]
  exact congrArg Ideal.exp (logs_agree l0 len t _ width _ _ len_pos width_pos (ends_cases θ t ok h j hj hk))

/-- The kernel's second result is the first times the segment's slope. -/
theorem out2_at : out2 (F := Ideal) θ (t : EReal)
    = want θ h j t * (Ideal.div (ht θ j - ht θ h) width * (len : EReal)) := by
  refine (gd_line _ _ _ _ (slotIx_at t ok h j hj hk)).trans ?_
  refine congrArg₂ (fun a b : EReal => a * b) (out1_at θ t ok h j hj hk) ?_
  rw [ledA_at θ h j hj, mul_comm (len : EReal)]

end Cert.Proof.Sched

namespace Cert.Proof.Sched

open Cert.ReferenceIdeal Cert.ReferenceIdeal.Gen Cert.ReferenceIdeal.Value

open Idealize.ShloMosaic Idealize.ShloMosaic.ValueIdx Idealize.ShloMosaic.TcCoe

/-- Two arrays that agree at every position are equal. -/
theorem array_ext (x y : (D1 8388608).Idx → EReal) (h : ∀ k : Fin 8388608, fl x k = fl y k) : x = y :=
  funext fun i => by rw [eq_ix1 i]; exact h _

/-- Two results read off the times position by position, as arrays: the first `u`, and the second `u` times `f`. -/
theorem arrays_eq (T u f : FVec Ideal (D1 8388608) .f32) (o1 o2 : EReal → EReal)
    (hT : ∀ k : Fin 8388608, ∃ t : ℝ, fl T k = (t : EReal) ∧ Good t)
    (h1 : ∀ (k : Fin 8388608) (t : ℝ), fl T k = (t : EReal) → Good t → fl u k = o1 t)
    (h2 : ∀ (k : Fin 8388608) (t : ℝ), fl T k = (t : EReal) → Good t → ∀ x : EReal, x = o1 t → x * fl f k = o2 t) :
    u = (fun i => o1 (T i)) ∧ mulf u f = fun i => o2 (T i) := by
  refine ⟨array_ext _ _ fun k => ?_, array_ext _ _ fun k => ?_⟩
  · obtain ⟨t, e, ok⟩ := hT k
    exact (h1 k t e ok).trans (congrArg o1 e.symm)
  · obtain ⟨t, e, ok⟩ := hT k
    exact (h2 k t e ok _ (h1 k t e ok)).trans (congrArg o2 e.symm)

/-- The reference's first result. -/
abbrev firstR (V0 : Valuation τ sig (Elt Ideal)) : FVec Ideal (D1 8388608) .f32 :=
  Host.exp (addf (wide (res_main_v1 V0)) (mulf (wide (res_main_v5 V0)) (addf (res_main_v106 V0)
      (mulf (Host.divf (subf (res_main_v60 V0) (res_main_v90 V0)) (res_main_v116 V0)) (subf (res_main_v113 V0) (res_main_v106 V0))))))

/-- What the reference multiplies its first result by to get the second. -/
abbrev factorR (V0 : Valuation τ sig (Elt Ideal)) : FVec Ideal (D1 8388608) .f32 :=
  mulf (Host.divf (subf (res_main_v113 V0) (res_main_v106 V0)) (res_main_v116 V0)) (Host.divf (mulf (res_main_v52 V0)
      (res_main_v48 V0)) (maximumf (res_main_v52 V0) (wide (constant S_ .f32 0x006CE3EE#32))))

variable (V0 : Valuation τ sig (Elt Ideal)) (i : Fin 8388608) (t : ℝ) (hT : fl (argT V0) i = (t : EReal)) (ok : Good t)
include hT ok

/-- The reference's first result at a position is the kernel's of the time there. -/
theorem first_value : fl (firstR V0) i
    = out1 (F := Ideal) (argθ V0) (t : EReal) := by
  obtain ⟨h, j, hj, hk⟩ := segment_exists t
  exact (first_at V0 i t hT ok.1 h j hj hk).trans (out1_at (argθ V0) t ok h j hj hk).symm

/-- The first result times the reference's factor is the kernel's second. -/
theorem second_value (x : EReal) (hx : x = out1 (F := Ideal) (argθ V0) (t : EReal)) :
    x * fl (factorR V0) i
    = out2 (F := Ideal) (argθ V0) (t : EReal) := by
  obtain ⟨h, j, hj, hk⟩ := segment_exists t
  refine (congrArg₂ (fun a b : EReal => a * b) (hx.trans (out1_at (argθ V0) t ok h j hj hk))
    (factor_at V0 i t hT ok.1 h j hj hk)).trans ?_
  exact (out2_at (argθ V0) t ok h j hj hk).symm

omit hT ok in
/-- The reference's two results, as arrays, are the kernel's two results of the times and the increments. -/
theorem results_eq (T : FVec Ideal (D1 8388608) .f32) (θ : FVec Ideal (D1 63) .f32) (eT : argT V0 = T) (eθ : argθ V0 = θ)
    (good : ∀ k : Fin 8388608, ∃ t : ℝ, fl T k = (t : EReal) ∧ Good t) :
    firstR V0 = (fun i => out1 (F := Ideal) θ (T i))
      ∧ mulf (firstR V0) (factorR V0) = fun i => out2 (F := Ideal) θ (T i) := by
  subst eT eθ
  exact arrays_eq (argT V0) (firstR V0) (factorR V0) (out1 (F := Ideal) (argθ V0)) (out2 (F := Ideal) (argθ V0)) good
    (fun k t e ok => first_value V0 k t e ok) (fun k t e ok x hx => second_value V0 k t e ok x hx)

end Cert.Proof.Sched

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

/-- What the precondition's operations ask of their shapes. -/
instance preFacts : Cert.Pre_in_range_off_knots.Facts where
  bcast_S_S8388608 := by decide
  reducesTo_S8388608_S_d0 := by decide
  h_S_ := by decide

/-- The program in machine words runs, keeps its arguments and ends with its semaphores at zero. -/
theorem frame_kernel : Cert.quiescent_Kernel := fun m ρ _ =>
  (θ_run Cert.KernelIdeal.defs _ _).mono (fun _ h => ⟨fun c => ⟨(h.1 c).1, (h.1 c).2.1⟩, h.2⟩) (Sched.run_main (F := Bits) m ρ)

/-- The program over the extended reals runs, keeps its arguments and ends with its semaphores at zero. -/
theorem frame_ideal : Cert.quiescent_KernelIdeal := fun m ρ _ =>
  (θ_run Cert.KernelIdeal.defs _ _).mono (fun _ h => ⟨fun c => ⟨(h.1 c).1, (h.1 c).2.1⟩, h.2⟩) (Sched.run_main (F := Ideal) m ρ)

/-- The reference runs and keeps its arguments; it has no semaphore. -/
theorem frame_reference : Cert.quiescent_ReferenceIdeal := fun m ρ _ =>
  (θ_run Cert.ReferenceIdeal.defs _ _).mono
    (fun r h => ⟨fun c => ⟨(h c).2.2.1, (h c).2.2.2⟩, Idealize.ShloMosaic.sem_eq_zero_of_no_sems (by decide) r.2⟩)
    (Cert.ReferenceIdeal.Value.run (F := Ideal) m ρ)

/-- The two programs leave the same results, over the extended reals, where every time is in range and off the knots. -/
theorem results : Cert.algebraic_KernelIdeal_ReferenceIdeal_pre_in_range_off_knots := by
  intro m ρ m' ρ' hpre hargs
  have same (c : Dev Cert.ReferenceIdeal.nD) := Sched.results_eq (StableHlo.launchContents m' c) (m (Sched.tLoc c)) (m (Sched.θLoc c))
    (hargs c).1 (hargs c).2 fun k => Sched.good_at _ _ (hpre c) (ValueIdx.ix1 k)
  refine ⟨fun c i => Sched.out1 (F := Ideal) (m (Sched.θLoc c)) (m (Sched.tLoc c) i),
    fun c i => Sched.out2 (F := Ideal) (m (Sched.θLoc c)) (m (Sched.tLoc c) i), ?_, ?_⟩
  · exact (θ_run Cert.KernelIdeal.defs _ _).mono
      (fun _ h c => ⟨(h.1 c).2.2.1, (h.1 c).2.2.2, (h.1 c).1, (h.1 c).2.1⟩) (Sched.run_main (F := Ideal) m ρ)
  · refine (θ_run Cert.ReferenceIdeal.defs _ _).mono (fun r h c => ⟨?_, ?_, (h c).2.2.1, (h c).2.2.2⟩)
      (Cert.ReferenceIdeal.Value.run (F := Ideal) m' ρ')
    · exact (h c).1.trans (same c).1
    · exact (h c).2.1.trans (same c).2

theorem claim : Cert.Claim :=
  ⟨Cert.Kernel.Gen.facts, Cert.KernelIdeal.Gen.facts, Cert.ReferenceIdeal.Gen.facts, preFacts, frame_kernel, frame_ideal,
    fun m ρ _ => frame_ideal m ρ trivial, frame_reference, fun m ρ _ => frame_reference m ρ trivial, trivial, results⟩

end Cert.Proof

end
